-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S4096x8192 : Shape := ⟨2, ![4096, 8192]⟩
abbrev S2x256x4096 : Shape := ⟨3, ![2, 256, 4096]⟩
abbrev S2x4x256x4096 : Shape := ⟨4, ![2, 4, 256, 4096]⟩
abbrev S2x2x256x4096 : Shape := ⟨4, ![2, 2, 256, 4096]⟩
abbrev S2x2 : Shape := ⟨2, ![2, 2]⟩
abbrev S2x4 : Shape := ⟨2, ![2, 4]⟩
abbrev S_ : Shape := ⟨0, ![]⟩
abbrev S256x256 : Shape := ⟨2, ![256, 256]⟩
abbrev S256x4096 : Shape := ⟨2, ![256, 4096]⟩
abbrev S1x256x4096 : Shape := ⟨3, ![1, 256, 4096]⟩
abbrev S1x1 : Shape := ⟨2, ![1, 1]⟩
abbrev S1x1x256x4096 : Shape := ⟨4, ![1, 1, 256, 4096]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S4096x8192, .f32⟩
  | .local _ .vmem, ⟨0, _⟩ => ⟨S4096x256, .bf16⟩
  | .local _ .vmem, ⟨1, _⟩ => ⟨S256x8192, .bf16⟩
  | .local _ .vmem, ⟨2, _⟩ => ⟨S2x256x4096, .bf16⟩
  | .local _ .vmem, ⟨3, _⟩ => ⟨S2x4x256x4096, .bf16⟩
  | .local _ .vmem, ⟨4, _⟩ => ⟨S2x2x256x4096, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v13 : BitVec 32 := Scalar.muli v2 c256_i32
  let v14 : Index := Scalar.indexCast v13
  let c0 : Index := 0#32
  ![v14.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_28 : BitVec 32 := 1#32
  let v35 : BitVec 32 := Scalar.muli v7 c1_i32_28
  let v36 : BitVec 32 := Scalar.addi c0_i32_29 v35
  v36.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_41 : BitVec 32 := 1#32
  let v45 : BitVec 32 := Scalar.muli v5 c1_i32_41
  let v46 : BitVec 32 := Scalar.addi c0_i32_42 v45
  v46.toNat
def k0_off2 (d0 : Dev nD) (c0_i32_48 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_47 : BitVec 32 := 16#32
  let v55 : BitVec 32 := Scalar.addi v2 c16_i32_47
  let v56 : BitVec 32 := Scalar.subi v55 c0_i32_48
  let c1_i32_49 : BitVec 32 := 1#32
  let v57 : BitVec 32 := Scalar.subi v56 c1_i32_49
  let c16_i32_50 : BitVec 32 := 16#32
  let v58 : BitVec 32 := Scalar.remsi v57 c16_i32_50
  let c256_i32_51 : BitVec 32 := 256#32
  let v59 : BitVec 32 := Scalar.muli v58 c256_i32_51
  let v60 : Index := Scalar.indexCast v59
  let c0_52 : Index := 0#32
  ![v60.toNat, 0]
def k0_off3 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v66 : BitVec 32 := Scalar.addi v2 c0_i32_56
  let c1_i32_57 : BitVec 32 := 1#32
  let v67 : BitVec 32 := Scalar.addi v66 c1_i32_57
  let c16_i32_58 : BitVec 32 := 16#32
  let v68 : BitVec 32 := Scalar.remsi v67 c16_i32_58
  let c256_i32_59 : BitVec 32 := 256#32
  let v69 : BitVec 32 := Scalar.muli v68 c256_i32_59
  let v70 : Index := Scalar.indexCast v69
  let c0_60 : Index := 0#32
  ![v70.toNat, 0]
def k0_dev5 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_135 : BitVec 32 := 1#32
  let v120 : BitVec 32 := Scalar.muli v7 c1_i32_135
  let v121 : BitVec 32 := Scalar.addi c0_i32_136 v120
  v121.toNat
def k0_dev6 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_148 : BitVec 32 := 1#32
  let v130 : BitVec 32 := Scalar.muli v5 c1_i32_148
  let v131 : BitVec 32 := Scalar.addi c0_i32_149 v130
  v131.toNat
def k0_dev7 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_242 : BitVec 32 := 1#32
  let v205 : BitVec 32 := Scalar.muli v7 c1_i32_242
  let v206 : BitVec 32 := Scalar.addi c0_i32_243 v205
  v206.toNat
def k0_dev8 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_255 : BitVec 32 := 1#32
  let v215 : BitVec 32 := Scalar.muli v5 c1_i32_255
  let v216 : BitVec 32 := Scalar.addi c0_i32_256 v215
  v216.toNat
def k0_dev9 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_347 : BitVec 32 := 1#32
  let v290 : BitVec 32 := Scalar.muli v7 c1_i32_347
  let v291 : BitVec 32 := Scalar.addi c0_i32_348 v290
  v291.toNat
def k0_dev10 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_360 : BitVec 32 := 1#32
  let v300 : BitVec 32 := Scalar.muli v5 c1_i32_360
  let v301 : BitVec 32 := Scalar.addi c0_i32_361 v300
  v301.toNat
def k0_dev11 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_453 : BitVec 32 := 1#32
  let v375 : BitVec 32 := Scalar.muli v7 c1_i32_453
  let v376 : BitVec 32 := Scalar.addi c0_i32_454 v375
  v376.toNat
def k0_dev12 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_466 : BitVec 32 := 1#32
  let v385 : BitVec 32 := Scalar.muli v5 c1_i32_466
  let v386 : BitVec 32 := Scalar.addi c0_i32_467 v385
  v386.toNat
def k0_dev13 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_559 : BitVec 32 := 1#32
  let v460 : BitVec 32 := Scalar.muli v7 c1_i32_559
  let v461 : BitVec 32 := Scalar.addi c0_i32_560 v460
  v461.toNat
def k0_dev14 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_572 : BitVec 32 := 1#32
  let v470 : BitVec 32 := Scalar.muli v5 c1_i32_572
  let v471 : BitVec 32 := Scalar.addi c0_i32_573 v470
  v471.toNat
def k0_dev15 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_665 : BitVec 32 := 1#32
  let v545 : BitVec 32 := Scalar.muli v7 c1_i32_665
  let v546 : BitVec 32 := Scalar.addi c0_i32_666 v545
  v546.toNat
def k0_dev16 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_678 : BitVec 32 := 1#32
  let v555 : BitVec 32 := Scalar.muli v5 c1_i32_678
  let v556 : BitVec 32 := Scalar.addi c0_i32_679 v555
  v556.toNat
def k0_dev17 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_771 : BitVec 32 := 1#32
  let v630 : BitVec 32 := Scalar.muli v7 c1_i32_771
  let v631 : BitVec 32 := Scalar.addi c0_i32_772 v630
  v631.toNat
def k0_dev18 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_784 : BitVec 32 := 1#32
  let v640 : BitVec 32 := Scalar.muli v5 c1_i32_784
  let v641 : BitVec 32 := Scalar.addi c0_i32_785 v640
  v641.toNat
def k0_dev19 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_877 : BitVec 32 := 1#32
  let v715 : BitVec 32 := Scalar.muli v7 c1_i32_877
  let v716 : BitVec 32 := Scalar.addi c0_i32_878 v715
  v716.toNat
def k0_dev20 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_890 : BitVec 32 := 1#32
  let v725 : BitVec 32 := Scalar.muli v5 c1_i32_890
  let v726 : BitVec 32 := Scalar.addi c0_i32_891 v725
  v726.toNat
def k0_dev21 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_983 : BitVec 32 := 1#32
  let v800 : BitVec 32 := Scalar.muli v7 c1_i32_983
  let v801 : BitVec 32 := Scalar.addi c0_i32_984 v800
  v801.toNat
def k0_dev22 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_996 : BitVec 32 := 1#32
  let v810 : BitVec 32 := Scalar.muli v5 c1_i32_996
  let v811 : BitVec 32 := Scalar.addi c0_i32_997 v810
  v811.toNat
def k0_dev23 (d0 : Dev nD) : Nat :=
  let c0_i32_1090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1089 : BitVec 32 := 1#32
  let v885 : BitVec 32 := Scalar.muli v7 c1_i32_1089
  let v886 : BitVec 32 := Scalar.addi c0_i32_1090 v885
  v886.toNat
def k0_dev24 (d0 : Dev nD) : Nat :=
  let c0_i32_1103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1102 : BitVec 32 := 1#32
  let v895 : BitVec 32 := Scalar.muli v5 c1_i32_1102
  let v896 : BitVec 32 := Scalar.addi c0_i32_1103 v895
  v896.toNat
def k0_dev25 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1195 : BitVec 32 := 1#32
  let v970 : BitVec 32 := Scalar.muli v7 c1_i32_1195
  let v971 : BitVec 32 := Scalar.addi c0_i32_1196 v970
  v971.toNat
def k0_dev26 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1208 : BitVec 32 := 1#32
  let v980 : BitVec 32 := Scalar.muli v5 c1_i32_1208
  let v981 : BitVec 32 := Scalar.addi c0_i32_1209 v980
  v981.toNat
def k0_dev27 (d0 : Dev nD) : Nat :=
  let c0_i32_1302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1301 : BitVec 32 := 1#32
  let v1055 : BitVec 32 := Scalar.muli v7 c1_i32_1301
  let v1056 : BitVec 32 := Scalar.addi c0_i32_1302 v1055
  v1056.toNat
def k0_dev28 (d0 : Dev nD) : Nat :=
  let c0_i32_1315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1314 : BitVec 32 := 1#32
  let v1065 : BitVec 32 := Scalar.muli v5 c1_i32_1314
  let v1066 : BitVec 32 := Scalar.addi c0_i32_1315 v1065
  v1066.toNat
def k0_dev29 (d0 : Dev nD) : Nat :=
  let c0_i32_1408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1407 : BitVec 32 := 1#32
  let v1140 : BitVec 32 := Scalar.muli v7 c1_i32_1407
  let v1141 : BitVec 32 := Scalar.addi c0_i32_1408 v1140
  v1141.toNat
def k0_dev30 (d0 : Dev nD) : Nat :=
  let c0_i32_1421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1420 : BitVec 32 := 1#32
  let v1150 : BitVec 32 := Scalar.muli v5 c1_i32_1420
  let v1151 : BitVec 32 := Scalar.addi c0_i32_1421 v1150
  v1151.toNat
def k0_dev31 (d0 : Dev nD) : Nat :=
  let c0_i32_1514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1513 : BitVec 32 := 1#32
  let v1225 : BitVec 32 := Scalar.muli v7 c1_i32_1513
  let v1226 : BitVec 32 := Scalar.addi c0_i32_1514 v1225
  v1226.toNat
def k0_dev32 (d0 : Dev nD) : Nat :=
  let c0_i32_1527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1526 : BitVec 32 := 1#32
  let v1235 : BitVec 32 := Scalar.muli v5 c1_i32_1526
  let v1236 : BitVec 32 := Scalar.addi c0_i32_1527 v1235
  v1236.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1612 : BitVec 32 := 1#32
  let v1310 : BitVec 32 := Scalar.addi v2 c1_i32_1612
  let c16_i32_1613 : BitVec 32 := 16#32
  let v1311 : BitVec 32 := Scalar.remsi v1310 c16_i32_1613
  let c256_i32_1627 : BitVec 32 := 256#32
  let v1327 : BitVec 32 := Scalar.muli v1311 c256_i32_1627
  let c0_i32_1632 : BitVec 32 := 0#32
  ![v1327.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1614 : BitVec 32 := 16#32
  let v1312 : BitVec 32 := Scalar.addi v2 c16_i32_1614
  let c1_i32_1615 : BitVec 32 := 1#32
  let v1313 : BitVec 32 := Scalar.subi v1312 c1_i32_1615
  let c16_i32_1616 : BitVec 32 := 16#32
  let v1314 : BitVec 32 := Scalar.remsi v1313 c16_i32_1616
  let c256_i32_1645 : BitVec 32 := 256#32
  let v1345 : BitVec 32 := Scalar.muli v1314 c256_i32_1645
  let c4096_i32 : BitVec 32 := 4096#32
  ![v1345.toNat, 4096]
def k0_dev33 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1659 : BitVec 32 := 1#32
  let v1351 : BitVec 32 := Scalar.muli v7 c1_i32_1659
  let v1352 : BitVec 32 := Scalar.addi c0_i32_1660 v1351
  v1352.toNat
def k0_dev34 (d0 : Dev nD) : Nat :=
  let c0_i32_1673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1672 : BitVec 32 := 1#32
  let v1361 : BitVec 32 := Scalar.muli v5 c1_i32_1672
  let v1362 : BitVec 32 := Scalar.addi c0_i32_1673 v1361
  v1362.toNat
def k0_dev35 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1736 : BitVec 32 := 1#32
  let v1399 : BitVec 32 := Scalar.muli v7 c1_i32_1736
  let v1400 : BitVec 32 := Scalar.addi c0_i32_1737 v1399
  v1400.toNat
def k0_dev36 (d0 : Dev nD) : Nat :=
  let c0_i32_1751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1750 : BitVec 32 := 1#32
  let v1409 : BitVec 32 := Scalar.muli v5 c1_i32_1750
  let v1410 : BitVec 32 := Scalar.addi c0_i32_1751 v1409
  v1410.toNat
def k0_off6 (d0 : Dev nD) (c0_i32_1772 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1771 : BitVec 32 := 16#32
  let v1430 : BitVec 32 := Scalar.addi v2 c16_i32_1771
  let v1431 : BitVec 32 := Scalar.subi v1430 c0_i32_1772
  let c16_i32_1773 : BitVec 32 := 16#32
  let v1432 : BitVec 32 := Scalar.remsi v1431 c16_i32_1773
  let c256_i32_1774 : BitVec 32 := 256#32
  let v1433 : BitVec 32 := Scalar.muli v1432 c256_i32_1774
  let c0_i32_1779 : BitVec 32 := 0#32
  ![v1433.toNat, 0]
def k0_off7 (d0 : Dev nD) (c0_i32_1797 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1450 : BitVec 32 := Scalar.addi v2 c0_i32_1797
  let c16_i32_1798 : BitVec 32 := 16#32
  let v1451 : BitVec 32 := Scalar.remsi v1450 c16_i32_1798
  let c256_i32_1799 : BitVec 32 := 256#32
  let v1452 : BitVec 32 := Scalar.muli v1451 c256_i32_1799
  let c4096_i32_1804 : BitVec 32 := 4096#32
  ![v1452.toNat, 4096]
def k0_dev37 (d0 : Dev nD) : Nat :=
  let c0_i32_1870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1869 : BitVec 32 := 1#32
  let v1486 : BitVec 32 := Scalar.muli v7 c1_i32_1869
  let v1487 : BitVec 32 := Scalar.addi c0_i32_1870 v1486
  v1487.toNat
def k0_dev38 (d0 : Dev nD) : Nat :=
  let c0_i32_1884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1883 : BitVec 32 := 1#32
  let v1496 : BitVec 32 := Scalar.muli v5 c1_i32_1883
  let v1497 : BitVec 32 := Scalar.addi c0_i32_1884 v1496
  v1497.toNat
def k0_dev39 (d0 : Dev nD) : Nat :=
  let c0_i32_1989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1988 : BitVec 32 := 1#32
  let v1563 : BitVec 32 := Scalar.muli v7 c1_i32_1988
  let v1564 : BitVec 32 := Scalar.addi c0_i32_1989 v1563
  v1564.toNat
def k0_dev40 (d0 : Dev nD) : Nat :=
  let c0_i32_2003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2002 : BitVec 32 := 1#32
  let v1573 : BitVec 32 := Scalar.muli v5 c1_i32_2002
  let v1574 : BitVec 32 := Scalar.addi c0_i32_2003 v1573
  v1574.toNat
def k0_dev41 (d0 : Dev nD) : Nat :=
  let c0_i32_2122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2121 : BitVec 32 := 1#32
  let v1650 : BitVec 32 := Scalar.muli v7 c1_i32_2121
  let v1651 : BitVec 32 := Scalar.addi c0_i32_2122 v1650
  v1651.toNat
def k0_dev42 (d0 : Dev nD) : Nat :=
  let c0_i32_2136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2135 : BitVec 32 := 1#32
  let v1660 : BitVec 32 := Scalar.muli v5 c1_i32_2135
  let v1661 : BitVec 32 := Scalar.addi c0_i32_2136 v1660
  v1661.toNat
def k0_dev43 (d0 : Dev nD) : Nat :=
  let c0_i32_2255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2254 : BitVec 32 := 1#32
  let v1737 : BitVec 32 := Scalar.muli v7 c1_i32_2254
  let v1738 : BitVec 32 := Scalar.addi c0_i32_2255 v1737
  v1738.toNat
def k0_dev44 (d0 : Dev nD) : Nat :=
  let c0_i32_2269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2268 : BitVec 32 := 1#32
  let v1747 : BitVec 32 := Scalar.muli v5 c1_i32_2268
  let v1748 : BitVec 32 := Scalar.addi c0_i32_2269 v1747
  v1748.toNat
def k0_dev45 (d0 : Dev nD) : Nat :=
  let c0_i32_2388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2387 : BitVec 32 := 1#32
  let v1824 : BitVec 32 := Scalar.muli v7 c1_i32_2387
  let v1825 : BitVec 32 := Scalar.addi c0_i32_2388 v1824
  v1825.toNat
def k0_dev46 (d0 : Dev nD) : Nat :=
  let c0_i32_2402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2401 : BitVec 32 := 1#32
  let v1834 : BitVec 32 := Scalar.muli v5 c1_i32_2401
  let v1835 : BitVec 32 := Scalar.addi c0_i32_2402 v1834
  v1835.toNat
def k0_dev47 (d0 : Dev nD) : Nat :=
  let c0_i32_2521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2520 : BitVec 32 := 1#32
  let v1911 : BitVec 32 := Scalar.muli v7 c1_i32_2520
  let v1912 : BitVec 32 := Scalar.addi c0_i32_2521 v1911
  v1912.toNat
def k0_dev48 (d0 : Dev nD) : Nat :=
  let c0_i32_2535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2534 : BitVec 32 := 1#32
  let v1921 : BitVec 32 := Scalar.muli v5 c1_i32_2534
  let v1922 : BitVec 32 := Scalar.addi c0_i32_2535 v1921
  v1922.toNat
def k0_dev49 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2653 : BitVec 32 := 1#32
  let v1998 : BitVec 32 := Scalar.muli v7 c1_i32_2653
  let v1999 : BitVec 32 := Scalar.addi c0_i32_2654 v1998
  v1999.toNat
def k0_dev50 (d0 : Dev nD) : Nat :=
  let c0_i32_2668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2667 : BitVec 32 := 1#32
  let v2008 : BitVec 32 := Scalar.muli v5 c1_i32_2667
  let v2009 : BitVec 32 := Scalar.addi c0_i32_2668 v2008
  v2009.toNat
def k0_dev51 (d0 : Dev nD) : Nat :=
  let c0_i32_2787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2786 : BitVec 32 := 1#32
  let v2085 : BitVec 32 := Scalar.muli v7 c1_i32_2786
  let v2086 : BitVec 32 := Scalar.addi c0_i32_2787 v2085
  v2086.toNat
def k0_dev52 (d0 : Dev nD) : Nat :=
  let c0_i32_2801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2800 : BitVec 32 := 1#32
  let v2095 : BitVec 32 := Scalar.muli v5 c1_i32_2800
  let v2096 : BitVec 32 := Scalar.addi c0_i32_2801 v2095
  v2096.toNat
def k0_dev53 (d0 : Dev nD) : Nat :=
  let c0_i32_2920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2919 : BitVec 32 := 1#32
  let v2172 : BitVec 32 := Scalar.muli v7 c1_i32_2919
  let v2173 : BitVec 32 := Scalar.addi c0_i32_2920 v2172
  v2173.toNat
def k0_dev54 (d0 : Dev nD) : Nat :=
  let c0_i32_2934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2933 : BitVec 32 := 1#32
  let v2182 : BitVec 32 := Scalar.muli v5 c1_i32_2933
  let v2183 : BitVec 32 := Scalar.addi c0_i32_2934 v2182
  v2183.toNat
def k0_dev55 (d0 : Dev nD) : Nat :=
  let c0_i32_3053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3052 : BitVec 32 := 1#32
  let v2259 : BitVec 32 := Scalar.muli v7 c1_i32_3052
  let v2260 : BitVec 32 := Scalar.addi c0_i32_3053 v2259
  v2260.toNat
def k0_dev56 (d0 : Dev nD) : Nat :=
  let c0_i32_3067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3066 : BitVec 32 := 1#32
  let v2269 : BitVec 32 := Scalar.muli v5 c1_i32_3066
  let v2270 : BitVec 32 := Scalar.addi c0_i32_3067 v2269
  v2270.toNat
def k0_dev57 (d0 : Dev nD) : Nat :=
  let c0_i32_3186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3185 : BitVec 32 := 1#32
  let v2346 : BitVec 32 := Scalar.muli v7 c1_i32_3185
  let v2347 : BitVec 32 := Scalar.addi c0_i32_3186 v2346
  v2347.toNat
def k0_dev58 (d0 : Dev nD) : Nat :=
  let c0_i32_3200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3199 : BitVec 32 := 1#32
  let v2356 : BitVec 32 := Scalar.muli v5 c1_i32_3199
  let v2357 : BitVec 32 := Scalar.addi c0_i32_3200 v2356
  v2357.toNat
def k0_dev59 (d0 : Dev nD) : Nat :=
  let c0_i32_3319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3318 : BitVec 32 := 1#32
  let v2433 : BitVec 32 := Scalar.muli v7 c1_i32_3318
  let v2434 : BitVec 32 := Scalar.addi c0_i32_3319 v2433
  v2434.toNat
def k0_dev60 (d0 : Dev nD) : Nat :=
  let c0_i32_3333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3332 : BitVec 32 := 1#32
  let v2443 : BitVec 32 := Scalar.muli v5 c1_i32_3332
  let v2444 : BitVec 32 := Scalar.addi c0_i32_3333 v2443
  v2444.toNat
def k0_dev61 (d0 : Dev nD) : Nat :=
  let c0_i32_3452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3451 : BitVec 32 := 1#32
  let v2520 : BitVec 32 := Scalar.muli v7 c1_i32_3451
  let v2521 : BitVec 32 := Scalar.addi c0_i32_3452 v2520
  v2521.toNat
def k0_dev62 (d0 : Dev nD) : Nat :=
  let c0_i32_3466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3465 : BitVec 32 := 1#32
  let v2530 : BitVec 32 := Scalar.muli v5 c1_i32_3465
  let v2531 : BitVec 32 := Scalar.addi c0_i32_3466 v2530
  v2531.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Program.lean ====
/-
The kernel's body as two loops. The printed body is one straight line of operations; here each kind of
operation is named once, with the direction `d` of the ring (`false` to the right neighbour, `true` to the
left) and the slot as parameters, and the body is put together from them in continuation passing form:
`opening`, fifteen steps of the reduce-scatter `rsIter`, `mid`, the first step of the all-gather `agFirst`,
fourteen more `agIter`, and `epilogue`. `body_eq` says the printed body is that program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.SL Idealize.SL.Sem

variable {F : FTy → Type} [FloatOps F]

/-! ## Neighbours, slots and views -/

/-- The number of a direction: 0 to the right, 1 to the left. -/
def dn (d : Bool) : ℕ := if d then 1 else 0

/-- The neighbour a message of direction `d` goes to. -/
def nb (d : Bool) (c : Dev nD) : Dev nD :=
  match d with
  | false => ⟨k0_dev3 c, k0_dev3_lt c⟩
  | true => ⟨k0_dev4 c, k0_dev4_lt c⟩

/-- The slot of the receive buffer that message `g` lands in. -/
def sl (g : ℕ) : Fin 4 := ⟨g % 4, Nat.mod_lt _ (by decide)⟩

theorem sInb : ∀ (d : Bool) (a), (![dn d, 0, 0] : Fin 3 → Nat) a + S1x256x4096.size a ≤ S2x256x4096.size a := by decide
theorem rInb : ∀ (d : Bool) (k : Fin 4) (a), (![dn d, k.val, 0, 0] : Fin 4 → Nat) a + S1x1x256x4096.size a ≤ S2x4x256x4096.size a := by decide
theorem oInb : ∀ (d : Bool) (k : Fin 2) (a), (![dn d, k.val, 0, 0] : Fin 4 → Nat) a + S1x1x256x4096.size a ≤ S2x2x256x4096.size a := by decide
theorem wInb : ∀ (d : Bool) (a), (![0, 4096 * dn d] : Fin 2 → Nat) a + S256x4096.size a ≤ S256x8192.size a := by decide
theorem q4Inb : ∀ (d : Bool) (k : Fin 4) (a), (![dn d, k.val] : Fin 2 → Nat) a + S1x1.size a ≤ S2x4.size a := by decide
theorem q2Inb : ∀ (d : Bool) (k : Fin 2) (a), (![dn d, k.val] : Fin 2 → Nat) a + S1x1.size a ≤ S2x2.size a := by decide

abbrev sRect (d : Bool) : Rect S2x256x4096 := Rect.unit (s := S2x256x4096) ![dn d, 0, 0] S1x256x4096.size (sInb d)
abbrev rRect (d : Bool) (k : Fin 4) : Rect S2x4x256x4096 := Rect.unit (s := S2x4x256x4096) ![dn d, k.val, 0, 0] S1x1x256x4096.size (rInb d k)
abbrev oRect (d : Bool) (k : Fin 2) : Rect S2x2x256x4096 := Rect.unit (s := S2x2x256x4096) ![dn d, k.val, 0, 0] S1x1x256x4096.size (oInb d k)
abbrev wRect (d : Bool) : Rect S256x8192 := Rect.unit (s := S256x8192) ![0, 4096 * dn d] S256x4096.size (wInb d)

abbrev sB : Memref sig .tc .vmem S2x256x4096 .bf16 := Memref.whole cc0_scratch0
abbrev rB : Memref sig .tc .vmem S2x4x256x4096 .bf16 := Memref.whole cc0_scratch1
abbrev oB : Memref sig .tc .vmem S2x2x256x4096 .f32 := Memref.whole cc0_scratch2
abbrev outB : Memref sig .tc .hbm S4096x8192 .f32 := Memref.whole main_v1

/-- The send buffer of direction `d`. -/
def sM (d : Bool) : Memref sig .tc .vmem S256x4096 .bf16 :=
  (sB.slice (sRect d) (fun _ => rfl)).squeeze S256x4096 squeezes_S1x256x4096_S256x4096
/-- Slot `k` of the receive buffer of direction `d`. -/
def rM (d : Bool) (k : Fin 4) : Memref sig .tc .vmem S256x4096 .bf16 :=
  (rB.slice (rRect d k) (fun _ => rfl)).squeeze S256x4096 squeezes_S1x1x256x4096_S256x4096
/-- Slot `k` of the staging buffer of direction `d`. -/
def oM (d : Bool) (k : Fin 2) : Memref sig .tc .vmem S256x4096 .f32 :=
  (oB.slice (oRect d k) (fun _ => rfl)).squeeze S256x4096 squeezes_S1x1x256x4096_S256x4096

/-- Where chunk `i` of direction `d` lies in the result: the own chunk is `i = 0`, the `t`-th gathered one `t + 1`. -/
def cOff (c : Dev nD) (d : Bool) (i : Fin 16) : Fin 2 → ℕ :=
  match d with
  | false => Fin.cases (k0_off4 c) (fun t : Fin 15 => k0_off6 c (BitVec.ofNat 32 t.val)) i
  | true => Fin.cases (k0_off5 c) (fun t : Fin 15 => k0_off7 c (BitVec.ofNat 32 t.val)) i

theorem cInb (c : Dev nD) (d : Bool) (i : Fin 16) : ∀ a, cOff c d i a + S256x4096.size a ≤ S4096x8192.size a := by
  cases d <;> refine Fin.cases ?_ (fun t => ?_) i
  · exact k0_off4_inb c
  · exact k0_off6_inb c t
  · exact k0_off5_inb c
  · exact k0_off7_inb c t

abbrev cRect (c : Dev nD) (d : Bool) (i : Fin 16) : Rect S4096x8192 := Rect.unit (s := S4096x8192) (cOff c d i) S256x4096.size (cInb c d i)

/-- Chunk `i` of direction `d` of the result. -/
def cM (c : Dev nD) (d : Bool) (i : Fin 16) : Memref sig .tc .hbm S256x4096 .f32 :=
  outB.slice (cRect c d i) (fun _ => rfl)

/-- The rows of `x` that step `i` of the reduce-scatter multiplies: `i = 0` before the first send, then `s + 1`. -/
def xOff (c : Dev nD) (d : Bool) (i : Fin 16) : Fin 2 → ℕ :=
  match d with
  | false => Fin.cases (k0_off1 c) (fun t : Fin 15 => k0_off2 c (BitVec.ofNat 32 t.val)) i
  | true => Fin.cases (k0_off1 c) (fun t : Fin 15 => k0_off3 c (BitVec.ofNat 32 t.val)) i

theorem xInb (c : Dev nD) (d : Bool) (i : Fin 16) : ∀ a, xOff c d i a + S256x256.size a ≤ S4096x256.size a := by
  cases d <;> refine Fin.cases ?_ (fun t => ?_) i
  · exact k0_off1_inb c
  · exact k0_off2_inb c t
  · exact k0_off1_inb c
  · exact k0_off3_inb c t

abbrev xRect (c : Dev nD) (d : Bool) (i : Fin 16) : Rect S4096x256 := Rect.unit (s := S4096x256) (xOff c d i) S256x256.size (xInb c d i)

/-! ## Semaphores -/

/-- The barrier semaphore. -/
def barS : Sem sig := (SemArray.scalar (d := ![]) (sig.barrier 0 rfl)).sem

def outS (d : Bool) (k : Fin 2) : DmaSem sig :=
  ((cc0_scratch3.slice (Rect.unit (s := S2x2) ![dn d, k.val] S1x1.size (q2Inb d k))).squeeze S_ squeezes_S1x1_S_).sem
def sendS (d : Bool) (k : Fin 4) : DmaSem sig :=
  ((cc0_scratch4.slice (Rect.unit (s := S2x4) ![dn d, k.val] S1x1.size (q4Inb d k))).squeeze S_ squeezes_S1x1_S_).sem
def recvS (d : Bool) (k : Fin 4) : DmaSem sig :=
  ((cc0_scratch5.slice (Rect.unit (s := S2x4) ![dn d, k.val] S1x1.size (q4Inb d k))).squeeze S_ squeezes_S1x1_S_).sem

theorem outS_eq : ∀ (d : Bool) (k : Fin 2), outS d k = ⟨2 + 2 * dn d + k.val, by revert d k; decide⟩ := by decide
theorem sendS_eq : ∀ (d : Bool) (k : Fin 4), sendS d k = ⟨6 + 4 * dn d + k.val, by revert d k; decide⟩ := by decide
theorem recvS_eq : ∀ (d : Bool) (k : Fin 4), recvS d k = ⟨14 + 4 * dn d + k.val, by revert d k; decide⟩ := by decide

/-! ## The evidence each access carries -/

theorem sWords : ∀ d : Bool, (sRect d).WholeWords (EltTy.packing .bf16)
  | false => wordsbf16_S2x256x4096_S1x256x4096_0_0_0
  | true => wordsbf16_S2x256x4096_S1x256x4096_1_0_0
theorem sPacked : ∀ d : Bool, (sRect d).PackedRows (EltTy.packing .bf16)
  | false => packedbf16_S2x256x4096_S1x256x4096_0_0_0
  | true => packedbf16_S2x256x4096_S1x256x4096_1_0_0
theorem rWords : ∀ (d : Bool) (k : Fin 4), (rRect d k).WholeWords (EltTy.packing .bf16)
  | false, 0 => wordsbf16_S2x4x256x4096_S1x1x256x4096_0_0_0_0
  | false, 1 => wordsbf16_S2x4x256x4096_S1x1x256x4096_0_1_0_0
  | false, 2 => wordsbf16_S2x4x256x4096_S1x1x256x4096_0_2_0_0
  | false, 3 => wordsbf16_S2x4x256x4096_S1x1x256x4096_0_3_0_0
  | true, 0 => wordsbf16_S2x4x256x4096_S1x1x256x4096_1_0_0_0
  | true, 1 => wordsbf16_S2x4x256x4096_S1x1x256x4096_1_1_0_0
  | true, 2 => wordsbf16_S2x4x256x4096_S1x1x256x4096_1_2_0_0
  | true, 3 => wordsbf16_S2x4x256x4096_S1x1x256x4096_1_3_0_0

theorem sExact (d : Bool) : (sM d).view.WordExact :=
  ((Memref.isWhole_whole cc0_scratch0).wordExact_slice rfl _ (sWords d)).reshape _ _
theorem rExact (d : Bool) (k : Fin 4) : (rM d k).view.WordExact :=
  ((Memref.isWhole_whole cc0_scratch1).wordExact_slice rfl _ (rWords d k)).reshape _ _
theorem oExact (d : Bool) (k : Fin 2) : (oM d k).view.WordExact := (View.wordExact_bits rfl).reshape _ _
theorem cExact (c : Dev nD) (d : Bool) (i : Fin 16) : (cM c d i).view.WordExact := View.wordExact_bits rfl

/-! ## The operations -/

variable (F) in
abbrev PG : Type 1 := Prog (TpuEff nD τ sig (Elt F) Λ₀ .tc) PUnit

/-- One unit to the barrier semaphore of the neighbour `e`. -/
def opSignal (e : Dev nD) (K : PG F) : PG F :=
  .op (.semSignal (e, .tc) barS (1#32 : BitVec 32).toInt) fun _ => K
/-- Two units from the own barrier semaphore. -/
def opBarrier (K : PG F) : PG F :=
  .op (.semWait barS (2#32 : BitVec 32).toInt) fun _ => K

/-- A message whose source is `src`, into slot `k` of the neighbour. -/
def opSend (c : Dev nD) (d : Bool) (k : Fin 4) (src : Memref sig .tc .vmem S256x4096 .bf16) (hs : src.view.WordExact) (K : PG F) : PG F :=
  .op (.enqueueDma src (.remote (Dev.tc (nb d c)) (rM d k) (.dma (sendS d k))) (.dma (recvS d k)) hs (rExact d k) ⟨⟨rfl, Or.inl rfl⟩, trivial⟩) fun _ => K
/-- The sender's wait for the message it sent from `src` through slot `k`. -/
def opWaitSend (d : Bool) (k : Fin 4) (src : Memref sig .tc .vmem S256x4096 .bf16) (hs : src.view.WordExact) (K : PG F) : PG F :=
  .op (.waitDma2 (sendS d k) (rM d k) src (rExact d k) hs) fun _ => K
/-- The wait for the message arriving in slot `k`. -/
def opWaitRecv (d : Bool) (k : Fin 4) (src : Memref sig .tc .vmem S256x4096 .bf16) (hs : src.view.WordExact) (K : PG F) : PG F :=
  .op (.waitDma2 (recvS d k) src (rM d k) hs (rExact d k)) fun _ => K

def opLoadX (xM : Memref sig .tc .vmem S4096x256 .bf16) (c : Dev nD) (d : Bool) (i : Fin 16) (K : Vec F S256x256 .bf16 → PG F) : PG F :=
  .op (.load xM (xRect c d i).toLoadRect (View.loadsAt_vmem h_S256x256)) K
def opLoadW (wM : Memref sig .tc .vmem S256x8192 .bf16) (d : Bool) (K : Vec F S256x4096 .bf16 → PG F) : PG F :=
  .op (.load wM (wRect d).toLoadRect (View.loadsAt_vmem h_S256x4096)) K
def opLoadS (d : Bool) (K : Vec F S1x256x4096 .bf16 → PG F) : PG F :=
  .op (.load sB (sRect d).toLoadRect (View.loadsAt_vmem h_S1x256x4096)) K
def opLoadR (d : Bool) (k : Fin 4) (K : Vec F S1x1x256x4096 .bf16 → PG F) : PG F :=
  .op (.load rB (rRect d k).toLoadRect (View.loadsAt_vmem h_S1x1x256x4096)) K
def opLoadO (d : Bool) (k : Fin 2) (K : Vec F S1x1x256x4096 .f32 → PG F) : PG F :=
  .op (.load oB (oRect d k).toLoadRect (View.loadsAt_vmem h_S1x1x256x4096)) K
def opStoreS (d : Bool) (v : Vec F S1x256x4096 .bf16) (K : PG F) : PG F :=
  .op (.store sB (sRect d) v Finset.univ (View.stores_vmem h_S1x256x4096 ((Memref.isWhole_whole cc0_scratch0).storeExact_slice rfl _ (sPacked d)) (fun _ => rfl)) (.inl rfl)) fun _ => K
def opStoreO (d : Bool) (k : Fin 2) (v : Vec F S1x1x256x4096 .f32) (K : PG F) : PG F :=
  .op (.store oB (oRect d k) v Finset.univ (View.stores_vmem_bits_univ h_S1x1x256x4096 rfl) (.inl rfl)) fun _ => K
def opCopy (c : Dev nD) (d : Bool) (k : Fin 2) (i : Fin 16) (K : PG F) : PG F :=
  .op (.enqueueDma (oM d k) (.here (cM c d i)) (.dma (outS d k)) (oExact d k) (cExact c d i) ⟨Or.inl rfl, trivial⟩) fun _ => K
def opWaitCopy (c : Dev nD) (d : Bool) (k : Fin 2) (i : Fin 16) (K : PG F) : PG F :=
  .op (.waitDma2 (outS d k) (oM d k) (cM c d i) (oExact d k) (cExact c d i)) fun _ => K

/-! ## The values the operations write -/

/-- The part of the product this device computes: a block of rows of `x` against half the columns of `w`. -/
def part (x : Vec F S256x256 .bf16) (w : Vec F S256x4096 .bf16) : FVec F S256x4096 .f32 := k0_pay4 x w
def castS (v : FVec F S256x4096 .bf16) : FVec F S1x256x4096 .bf16 := shapeCast S1x256x4096 v shapeCasts_S256x4096_S1x256x4096
def castO (v : FVec F S256x4096 .f32) : FVec F S1x1x256x4096 .f32 := shapeCast S1x1x256x4096 v shapeCasts_S256x4096_S1x1x256x4096
def uncastS (v : Vec F S1x256x4096 .bf16) : FVec F S256x4096 .bf16 := shapeCast S256x4096 v shapeCasts_S1x256x4096_S256x4096
def uncastR (v : Vec F S1x1x256x4096 .bf16) : FVec F S256x4096 .bf16 := shapeCast S256x4096 v shapeCasts_S1x1x256x4096_S256x4096
/-- Rounded to bf16. -/
def lo (v : FVec F S256x4096 .f32) : FVec F S256x4096 .bf16 := truncf .bf16 v bitsLt_bf16_f32
/-- Read back as f32. -/
def hi (v : FVec F S256x4096 .bf16) : FVec F S256x4096 .f32 := extf .f32 v bitsLt_bf16_f32
/-- One step of the reduction: the received partial sum, the own part added, rounded. -/
def accum (p : FVec F S256x4096 .f32) (v : FVec F S256x4096 .bf16) : FVec F S256x4096 .bf16 := lo (addf (hi v) p)
/-- `a * logistic a`. -/
def silu (v : FVec F S256x4096 .bf16) : FVec F S256x4096 .f32 := mulf (hi v) (logistic (hi v))

/-! ## The program -/

section Prog
variable (xM : Memref sig .tc .vmem S4096x256 .bf16) (wM : Memref sig .tc .vmem S256x8192 .bf16) (c : Dev nD)

/-- The barrier with both neighbours, and the own part of each direction's first message. -/
def firstPart (d : Bool) (K : PG F) : PG F :=
  opLoadX xM c d 0 fun x => opLoadW wM d fun w => opLoadS d fun _ => opStoreS d (castS (lo (part x w))) K

def opening (K : PG F) : PG F :=
  opSignal (nb true c) <| opSignal (nb false c) <| opBarrier <| firstPart xM wM c false <| firstPart xM wM c true K

/-- Both ends of message `s` of direction `d`, and the sum sent on. -/
def rsRecv (d : Bool) (s : ℕ) (p : FVec F S256x4096 .f32) (K : PG F) : PG F :=
  opWaitSend d (sl s) (sM d) (sExact d) <| opWaitRecv d (sl s) (sM d) (sExact d) <|
  opLoadR d (sl s) fun v => opLoadS d fun _ => opStoreS d (castS (accum p (uncastR v))) K

def rsIter (s : Fin 15) (K : PG F) : PG F :=
  opSend c false (sl s.val) (sM false) (sExact false) <| opSend c true (sl s.val) (sM true) (sExact true) <|
  opLoadX xM c false s.succ fun x0 => opLoadW wM false fun w0 =>
  opLoadX xM c true s.succ fun x1 => opLoadW wM true fun w1 =>
  rsRecv false s.val (part x0 w0) <| rsRecv true s.val (part x1 w1) K

def midDir (d : Bool) (K : PG F) : PG F :=
  opLoadS d fun v => opLoadO d 0 fun _ => opStoreO d 0 (castO (silu (uncastS v))) <|
  opLoadS d fun _ => opStoreS d (castS (lo (silu (uncastS v)))) <| opCopy c d 0 0 K

def mid (K : PG F) : PG F := midDir c false <| midDir c true K

def agFirst (K : PG F) : PG F :=
  opSend c false (sl 15) (sM false) (sExact false) <| opSend c true (sl 15) (sM true) (sExact true) <|
  opWaitSend false (sl 15) (sM false) (sExact false) <| opWaitRecv false (sl 15) (sM false) (sExact false) <|
  opWaitSend true (sl 15) (sM true) (sExact true) <| opWaitRecv true (sl 15) (sM true) (sExact true) K

/-- The staging slot of the `t`-th gathered chunk, counted from 1. -/
def os (t : ℕ) : Fin 2 := ⟨(t + 1) % 2, Nat.mod_lt _ (by decide)⟩

/-- The `t`-th gathered chunk (from 1), out of slot `k` of the receive buffer, towards the result; `prev` is the
    chunk whose copy still reads the staging slot, if one does. -/
def gather (d : Bool) (prev : Option (Fin 16)) (k : Fin 4) (o : Fin 2) (i : Fin 16) (K : PG F) : PG F :=
  let rest : PG F := opLoadR d k fun v => opLoadO d o fun _ => opStoreO d o (castO (hi (uncastR v))) <| opCopy c d o i K
  match prev with
  | none => rest
  | some j => opWaitCopy c d o j rest

def agPrev (t : Fin 16) : Option (Fin 16) :=
  if t.val = 2 then none else if t.val = 1 then some 0 else some ⟨t.val - 2, by omega⟩

def agRecv (d : Bool) (g : ℕ) (K : PG F) : PG F :=
  opWaitSend d (sl g) (rM d (sl (g - 1))) (rExact d _) <| opWaitRecv d (sl g) (rM d (sl (g - 1))) (rExact d _) K

/-- Step `t` of the all-gather (from 1): pass on the chunk that came in, copy it to the result meanwhile. -/
def agIter (t : Fin 16) (K : PG F) : PG F :=
  opSend c false (sl (15 + t.val)) (rM false (sl (14 + t.val))) (rExact _ _) <|
  opSend c true (sl (15 + t.val)) (rM true (sl (14 + t.val))) (rExact _ _) <|
  gather c false (agPrev t) (sl (14 + t.val)) (os t.val) t <|
  gather c true (agPrev t) (sl (14 + t.val)) (os t.val) t <|
  agRecv false (15 + t.val) <| agRecv true (15 + t.val) K

def epilogue (K : PG F) : PG F :=
  gather c false (some 13) (sl 29) 0 15 <| gather c true (some 13) (sl 29) 0 15 <|
  opWaitCopy c false 1 14 <| opWaitCopy c true 1 14 <| opWaitCopy c false 0 15 <| opWaitCopy c true 0 15 K

/-- Steps `s`, `s + 1`, …, 14 of the reduce-scatter, counted down. -/
def rsFrom : (n : ℕ) → n ≤ 15 → PG F → PG F
  | 0, _, K => K
  | n + 1, h, K => rsIter xM wM c ⟨14 - n, by omega⟩ (rsFrom n (by omega) K)

/-- Steps of the all-gather from 1 to 14, counted down. -/
def agFrom : (n : ℕ) → n ≤ 14 → PG F → PG F
  | 0, _, K => K
  | n + 1, h, K => agIter c ⟨14 - n, by omega⟩ (agFrom n (by omega) K)

def prog : PG F :=
  opening xM wM c <| rsFrom xM wM c 15 le_rfl <| mid c <| agFirst c <| agFrom c 14 le_rfl <| epilogue c <| .ret ⟨⟩

end Prog

/-- The printed body is that program. -/
theorem body_eq (xM : Memref sig .tc .vmem S4096x256 .bf16) (hx : xM.IsWhole) (wM : Memref sig .tc .vmem S256x8192 .bf16) (hw : wM.IsWhole) :
    cc0__ar_body (F := F) xM hx wM hw (Memref.whole main_v1) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5
    = .op .deviceId fun c => prog xM wM c := by
  chain_rfl

end Cert.KProof

end
-- ==== Proof.Base.lean ====
/-
The resource algebra, the vocabulary of assertions, and one rule per memory operation of `Program`: a load or a
store of a slice of a buffer, stated for the slice's ownership with its leading axes dropped, the way the transfers
see it.
-/
module

public import proofs.«01_k».proof.Proof.Program
public import Idealize.ShloMosaic.Lib.Pipeline.Value
public import Idealize.ShloMosaic.Lib.Transfers
public import Idealize.ShloMosaic.Lib.Rounds

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The algebra: the pipeline's rounds, the ring's rounds, and the counters of the copies in flight -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The ring's rounds: the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig ℕ (Elt F) ℕ UU ℕ) := countersEmb

abbrev 𝒱₀ : Variants := Variants.none

variable (F) in
abbrev Post : Type := PUnit.{1} → sProp (MT nD τ sig ℕ (Elt F) ℕ UU ℕ)

variable (F) in
/-- A program of the ring's device `c` runs to `Q`. -/
abbrev WP (c : Dev nD) (p : PG F) (Q : Post F) : sProp 𝕄 :=
  wp frame (wpE (defs₀ (F := F)) 𝒱₀ (c : Thread nD τ) none) Set.univ p Q

/-- Device `c` owns the memref at share `q`, reading `X`. -/
abbrev own (c : Dev nD) {sp : Space} {s : Shape} {e : EltTy} (m : Memref sig .tc sp s e) (q : PosShare TreeShare) (X : s.Idx → Elt F e) : sProp 𝕄 :=
  owns (Ix := ℕ) (Name := ℕ) (U := UU) (Lvl := ℕ) (c : Thread nD τ) m q X

/-- … reading something. -/
abbrev ownAny (c : Dev nD) {sp : Space} {s : Shape} {e : EltTy} (m : Memref sig .tc sp s e) : sProp 𝕄 :=
  iprop(∃ X : s.Idx → Elt F e, own c m fullShare X)

/-! ## Loads and stores of a squeezed slice -/

section Mem
variable (c : Dev nD) {Q : Post F} {e : EltTy}

/-- A load through `r` of a memref whose slice through `r` is owned with axes dropped. -/
theorem wp_load_own {cs : CoreSpace} {s s' : Shape} (m : Memref sig .tc cs s e) (r : Rect s) (hr : ∀ a, r.stride a = 1)
    (hsq : r.shape.Squeezes s') {hl : m.view.LoadsAt r} {K : (r.shape.Idx → Elt F e) → PG F} (q : PosShare TreeShare) (X : s'.Idx → Elt F e)
    (h : s'.ShapeCasts r.shape) :
    own c ((m.slice r hr).squeeze s' hsq) q X
      ⊢ iprop((own c ((m.slice r hr).squeeze s' hsq) q X -∗ WP F c (K (shapeCast r.shape X h)) Q) -∗ WP F c (.op (.load m r.toLoadRect hl) K) Q) := by
  iintro H Hk
  ihave H := (show own c ((m.slice r hr).squeeze s' hsq) q X ⊢ iprop(∃ g, ⌜((m.slice r hr).squeeze s' hsq).view.read (Elt F) g = X⌝
      ∗ ((m.access r).loc (c : Thread nD τ) ↦[(m.access r).set]{q} g)) from by
    unfold own owns; simp only [Memref.view_squeeze, View.set_reshape]; exact .rfl) $$ H
  icases H with ⟨%g, %hg, H⟩
  iapply (wp_load_rect 𝒱₀ (c : Thread nD τ) none Set.univ (m := m) (r := r) (Finset.Subset.refl _)) $$ H
  iintro H
  have hv : (m.access r).read (Elt F) g = shapeCast r.shape X h := by
    funext j
    rw [← hg]
    unfold shapeCast
    show _ = (m.access r).read (Elt F) g (Shape.reshapeEquiv hsq.numel_eq (Shape.reshapeEquiv h j))
    rw [Shape.reshapeEquiv_reshapeEquiv, Shape.reshapeEquiv_self]
  rw [hv]
  iapply Hk
  unfold own owns
  iexists g
  isplitr; · ipureintro; exact hg
  simp only [Memref.view_squeeze, View.set_reshape]
  iexact H

/-- A store through `r` of all of it. -/
theorem wp_store_own {cs : CoreSpace} {s s' : Shape} (m : Memref sig .tc cs s e) (r : Rect s) (hr : ∀ a, r.stride a = 1)
    (hsq : r.shape.Squeezes s') {w : r.shape.Idx → Elt F e} {hx : (m.access r).Stores Finset.univ} {hm : Finset.univ = Finset.univ ∨ ∀ a, r.stride a = 1}
    {K : PUnit → PG F} (X : s'.Idx → Elt F e) (h : r.shape.ShapeCasts s') :
    own c ((m.slice r hr).squeeze s' hsq) fullShare X
      ⊢ iprop((own c ((m.slice r hr).squeeze s' hsq) fullShare (shapeCast s' w h) -∗ WP F c (K ⟨⟩) Q)
          -∗ WP F c (.op (.store m r w Finset.univ hx hm) K) Q) := by
  iintro H Hk
  ihave H := (show own c ((m.slice r hr).squeeze s' hsq) fullShare X ⊢ iprop(∃ g,
      ((m.access r).loc (c : Thread nD τ) ↦[(m.access r).setOn Finset.univ]{fullShare} g)) from by
    unfold own owns; simp only [Memref.view_squeeze, View.set_reshape, View.setOn_univ]; iintro ⟨%g, -, H⟩; iexists g; iexact H) $$ H
  icases H with ⟨%g, H⟩
  iapply (wp_store 𝒱₀ (c : Thread nD τ) none Set.univ (m := m) (r := r) (Mk := Finset.univ) (Finset.Subset.refl _)) $$ H
  iintro H
  iapply Hk
  unfold own owns
  iexists ((m.access r).write (Elt F) g w Finset.univ)
  isplitr
  · ipureintro
    funext j
    show (m.access r).read (Elt F) ((m.access r).write (Elt F) g w Finset.univ) (Shape.reshapeEquiv hsq.numel_eq j) = _
    rw [View.read_write_univ]; rfl
  simp only [Memref.view_squeeze, View.set_reshape, View.setOn_univ]
  iexact H

end Mem

/-! ## The kernel's loads and stores -/

/-- The block of rows of `x` that step `i` of direction `d` multiplies. -/
def xs (X : Vec F S4096x256 .bf16) (c : Dev nD) (d : Bool) (i : Fin 16) : Vec F S256x256 .bf16 := fun j => X ((xRect c d i).emb j)
/-- The half of the columns of `w` that direction `d` multiplies. -/
def ws (W : Vec F S256x8192 .bf16) (d : Bool) : Vec F S256x4096 .bf16 := fun j => W ((wRect d).emb j)
def castR (v : FVec F S256x4096 .bf16) : Vec F S1x1x256x4096 .bf16 := shapeCast S1x1x256x4096 v shapeCasts_S256x4096_S1x1x256x4096
theorem uncastR_castR (v : FVec F S256x4096 .bf16) : uncastR (castR v) = v := by
  unfold uncastR castR; rw [shapeCast_shapeCast]
theorem uncastS_castS (v : FVec F S256x4096 .bf16) : uncastS (castS v) = v := by
  unfold uncastS castS; rw [shapeCast_shapeCast]

section Ops
variable (c : Dev nD) {Q : Post F}

theorem wp_opLoadX (xM : Memref sig .tc .vmem S4096x256 .bf16) (d : Bool) (i : Fin 16) {K : Vec F S256x256 .bf16 → PG F} (q : PosShare TreeShare) (X) :
    own c xM q X ⊢ iprop((own c xM q X -∗ WP F c (K (xs X c d i)) Q) -∗ WP F c (opLoadX xM c d i K) Q) := by
  unfold own owns opLoadX
  iintro ⟨%g, %hg, H⟩ Hk
  iapply (wp_load_rect 𝒱₀ (c : Thread nD τ) none Set.univ (m := xM) (r := xRect c d i) (View.set_slice_subset _ _)) $$ H
  iintro H
  rw [show (xM.access (xRect c d i)).read (Elt F) g = xs X c d i from by subst hg; rfl]
  iapply Hk
  iexists g
  isplitr; · ipureintro; exact hg
  iexact H

theorem wp_opLoadW (wM : Memref sig .tc .vmem S256x8192 .bf16) (d : Bool) {K : Vec F S256x4096 .bf16 → PG F} (q : PosShare TreeShare) (W) :
    own c wM q W ⊢ iprop((own c wM q W -∗ WP F c (K (ws W d)) Q) -∗ WP F c (opLoadW wM d K) Q) := by
  unfold own owns opLoadW
  iintro ⟨%g, %hg, H⟩ Hk
  iapply (wp_load_rect 𝒱₀ (c : Thread nD τ) none Set.univ (m := wM) (r := wRect d) (View.set_slice_subset _ _)) $$ H
  iintro H
  rw [show (wM.access (wRect d)).read (Elt F) g = ws W d from by subst hg; rfl]
  iapply Hk
  iexists g
  isplitr; · ipureintro; exact hg
  iexact H

theorem wp_opLoadS (d : Bool) {K : Vec F S1x256x4096 .bf16 → PG F} (X) :
    own c (sM d) fullShare X ⊢ iprop((own c (sM d) fullShare X -∗ WP F c (K (castS X)) Q) -∗ WP F c (opLoadS d K) Q) :=
  wp_load_own c sB (sRect d) (fun _ => rfl) squeezes_S1x256x4096_S256x4096 fullShare X shapeCasts_S256x4096_S1x256x4096

theorem wp_opLoadR (d : Bool) (k : Fin 4) {K : Vec F S1x1x256x4096 .bf16 → PG F} (q : PosShare TreeShare) (X) :
    own c (rM d k) q X ⊢ iprop((own c (rM d k) q X -∗ WP F c (K (castR X)) Q) -∗ WP F c (opLoadR d k K) Q) :=
  wp_load_own c rB (rRect d k) (fun _ => rfl) squeezes_S1x1x256x4096_S256x4096 q X shapeCasts_S256x4096_S1x1x256x4096

theorem wp_opLoadO (d : Bool) (k : Fin 2) {K : Vec F S1x1x256x4096 .f32 → PG F} :
    ownAny c (oM d k) ⊢ iprop((∀ v, ownAny c (oM d k) -∗ WP F c (K v) Q) -∗ WP F c (opLoadO d k K) Q) := by
  unfold oM opLoadO
  iintro ⟨%X, H⟩ Hk
  iapply (wp_load_own c oB (oRect d k) (fun _ => rfl) squeezes_S1x1x256x4096_S256x4096 fullShare X shapeCasts_S256x4096_S1x1x256x4096) $$ H
  iintro H
  iapply Hk
  iexists X; iexact H

theorem wp_opStoreS (d : Bool) (Y : FVec F S256x4096 .bf16) {K : PG F} (X) :
    own c (sM d) fullShare X ⊢ iprop((own c (sM d) fullShare Y -∗ WP F c K Q) -∗ WP F c (opStoreS d (castS Y) K) Q) := by
  have h := wp_store_own (Q := Q) c sB (sRect d) (fun _ => rfl) squeezes_S1x256x4096_S256x4096 (w := castS Y) (K := fun _ => K)
    (hx := View.stores_vmem h_S1x256x4096 ((Memref.isWhole_whole cc0_scratch0).storeExact_slice rfl _ (sPacked d)) (fun _ => rfl)) (hm := .inl rfl)
    X shapeCasts_S1x256x4096_S256x4096
  rw [show shapeCast S256x4096 (castS Y) shapeCasts_S1x256x4096_S256x4096 = Y from uncastS_castS Y] at h
  exact h

theorem wp_opStoreO (d : Bool) (k : Fin 2) (Y : FVec F S256x4096 .f32) {K : PG F} :
    ownAny c (oM d k) ⊢ iprop((own c (oM d k) fullShare Y -∗ WP F c K Q) -∗ WP F c (opStoreO d k (castO Y) K) Q) := by
  unfold oM opStoreO
  iintro ⟨%X, H⟩
  have h := wp_store_own (Q := Q) c oB (oRect d k) (fun _ => rfl) squeezes_S1x1x256x4096_S256x4096 (w := castO Y) (K := fun _ => K)
    (hx := View.stores_vmem_bits_univ h_S1x1x256x4096 rfl) (hm := .inl rfl)
    X shapeCasts_S1x1x256x4096_S256x4096
  rw [show shapeCast S256x4096 (castO Y) shapeCasts_S1x1x256x4096_S256x4096 = Y from by
    unfold castO; rw [shapeCast_shapeCast]] at h
  iapply h $$ H

/-! ## Copies of a staged chunk to the result -/

/-- The credit of a copy of a chunk. -/
def NC : ℕ := (oM false 0).view.dmaCredit
theorem oCredit (d : Bool) (k : Fin 2) : (oM d k).view.dmaCredit = NC := rfl
theorem cCredit (c : Dev nD) (d : Bool) (i : Fin 16) : (cM c d i).view.dmaCredit = NC := rfl
theorem NC_pos : 0 < NC := View.dmaCredit_pos _ (by decide)

/-- A copy of staging slot `k` to chunk `i` in flight, that will leave `Y` there. -/
def Copying (d : Bool) (k : Fin 2) (i : Fin 16) (Y : FVec F S256x4096 .f32) : sProp 𝕄 :=
  Flight (EC (F := F)) (c : Thread nD τ) (.dma (outS d k)) 0 NC iprop(own c (cM c d i) fullShare Y ∗ ownAny c (oM d k))

theorem wp_opCopy (d : Bool) (k : Fin 2) (i : Fin 16) (Y : FVec F S256x4096 .f32) {K : PG F} :
    iprop(own c (oM d k) fullShare Y ∗ ownAny c (cM c d i) ∗ semVal ((c : Thread nD τ), .dma (outS d k)) 0)
      ⊢ iprop((Copying c d k i Y -∗ WP F c K Q) -∗ WP F c (opCopy c d k i K) Q) := by
  unfold opCopy Copying
  iintro ⟨Ho, ⟨%Z, Hc⟩, Hv⟩ Hk
  unfold own owns
  icases Ho with ⟨%fs, %hfs, Ho⟩
  icases Hc with ⟨%fd, -, Hc⟩
  iapply (wp_dmaLocal (EC (F := F)) 𝒱₀ (c : Thread nD τ) none (src := oM d k) (dst := cM c d i) (sm := .dma (outS d k)) 0 NC (cCredit c d i) NC_pos (Finset.Subset.refl _)) $$ [Ho Hc Hv]
  · isplitl [Ho]; · iexact Ho
    isplitl [Hc]; · iexact Hc
    iexact Hv
  iintro Hf
  iapply Hk
  iapply (Flight_mono (EC (F := F)) (c : Thread nD τ) (D := _) ?_) $$ Hf
  iintro ⟨Hc, Ho⟩
  isplitl [Hc]
  · iexists _
    isplitr
    · ipureintro
      show (cM c d i).view.read (Elt F) ((cM c d i).view.write (Elt F) fd ((oM d k).view.read (Elt F) fs) Finset.univ) = Y
      rw [View.read_write_univ, hfs]
    iexact Hc
  · iexists Y; unfold own owns; iexists fs
    isplitr; · ipureintro; exact hfs
    iexact Ho

theorem wp_opWaitCopy (d : Bool) (k : Fin 2) (i : Fin 16) (Y : FVec F S256x4096 .f32) {K : PG F} {O : CellTallies nD τ sig ℕ} {W : Waits sig ℕ} :
    iprop(Copying c d k i Y ∗ owes (c : Thread nD τ) O W ∗ MayWait (c : Thread nD τ) (.dma (outS d k)) 0 O)
      ⊢ iprop((iprop((own c (cM c d i) fullShare Y ∗ ownAny c (oM d k)) ∗ semVal ((c : Thread nD τ), .dma (outS d k)) 0
            ∗ owes (c : Thread nD τ) O (insert (SemLoc.dma (outS d k), 0) W)) -∗ WP F c K Q) -∗ WP F c (opWaitCopy c d k i K) Q) := by
  unfold Copying opWaitCopy
  exact wp_waitLocalO (EC (F := F)) 𝒱₀ (c : Thread nD τ) none (defs := defs₀ (F := F)) (Q := Q) (k := fun _ => K) (sem := outS d k) (srcw := oM d k) (dstw := cM c d i)
    (hsrc := oExact d k) (hdst := cExact c d i) 0 (cCredit c d i)

end Ops

end Cert.KProof

end
-- ==== Proof.Sched.lean ====
/-
The protocol of the two rings. Message `g` of direction `d` (`g = 0, …, 29`) goes from a device to its neighbour
`nb d`, lands in slot `g % 4` of the neighbour's receive buffer, credits the sender's send semaphore of that slot
and the receiver's receive semaphore of it. Round `r` of slot `k`'s two semaphores is message `4 r + k`.

A message carries, besides its block, the right to send the next message of the other direction into a slot of
the sender's own: that is what keeps a fast device from overwriting a slot that is still to be read.
-/
module

public import proofs.«01_k».proof.Proof.Base
public import Idealize.ShloMosaic.Lib.Ring

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The rings -/

theorem nb_false (c : Dev nD) : (nb false c).val = (c.val + 1) % 16 := k0_dev3_eq c
theorem nb_true (c : Dev nD) : (nb true c).val = (c.val + 15) % 16 := k0_dev4_eq c
theorem nb_nb (d : Bool) (c : Dev nD) : nb (!d) (nb d c) = c := by
  have := c.isLt
  cases d
  · exact Fin.ext (by rw [show (!false) = true from rfl, nb_true, nb_false]; simp only [nD] at *; omega)
  · exact Fin.ext (by rw [show (!true) = false from rfl, nb_false, nb_true]; simp only [nD] at *; omega)
theorem nb_nb' (d : Bool) (c : Dev nD) : nb d (nb (!d) c) = c := by
  have h := nb_nb (!d) c; rwa [Bool.not_not] at h

/-- The device that messages of direction `d` come from. -/
abbrev fr (d : Bool) (c : Dev nD) : Dev nD := nb (!d) c

theorem sl_val (g : ℕ) : (sl g).val = g % 4 := rfl
theorem sl_add4 (g : ℕ) : sl (g + 4) = sl g := Fin.ext (by simp only [sl_val]; omega)
theorem msg_eq (g : ℕ) : 4 * (g / 4) + (sl g).val = g := by simp only [sl_val]; omega

/-! ## Contents of the messages -/

section Contents
variable (X : Dev nD → Vec F S4096x256 .bf16) (W : Dev nD → Vec F S256x8192 .bf16) (d : Bool)

/-- The number of a part, as an index below 16. -/
def ix (i : ℕ) : Fin 16 := ⟨i % 16, Nat.mod_lt _ (by decide)⟩

/-- The part device `c` adds at step `i`. -/
def P (i : ℕ) (c : Dev nD) : FVec F S256x4096 .f32 := part (xs (X c) c d (ix i)) (ws (W c) d)

/-- What device `c` has summed up after step `i` of the reduction. -/
def A : ℕ → Dev nD → FVec F S256x4096 .bf16
  | 0, c => lo (P X W d 0 c)
  | i + 1, c => accum (P X W d (i + 1) c) (A i (fr d c))

/-- What device `c` passes on at step `t` of the gathering: its own chunk first. -/
def G : ℕ → Dev nD → FVec F S256x4096 .bf16
  | 0, c => lo (silu (A X W d 15 c))
  | t + 1, c => G t (fr d c)

/-- Message `g` of device `c`. -/
def V (g : ℕ) (c : Dev nD) : FVec F S256x4096 .bf16 := if g < 15 then A X W d g c else G X W d (g - 15) c

/-- What chunk `i` of the result holds in the end. -/
def OUT (c : Dev nD) (i : Fin 16) : FVec F S256x4096 .f32 :=
  if i.val = 0 then silu (A X W d 15 c) else hi (V X W d (14 + i.val) (fr d c))

variable {X W d}
theorem V_rs {g : ℕ} (h : g < 15) (c : Dev nD) : V X W d g c = A X W d g c := if_pos h
theorem V_15 (c : Dev nD) : V X W d 15 c = lo (silu (A X W d 15 c)) := by
  unfold V; rw [if_neg (by omega)]; rfl
theorem V_ag {g : ℕ} (h : 15 ≤ g) (c : Dev nD) : V X W d (g + 1) c = V X W d g (fr d c) := by
  unfold V; rw [if_neg (by omega), if_neg (by omega), show g + 1 - 15 = (g - 15) + 1 by omega]; rfl
theorem A_succ {i : ℕ} (h : i < 15) (c : Dev nD) : A X W d (i + 1) c = accum (P X W d (i + 1) c) (V X W d i (fr d c)) := by
  rw [V_rs h]; rfl
end Contents

/-! ## The cells -/

abbrev barC (c : Dev nD) : GSem nD τ sig := ((c : Thread nD τ), .reg barS)
abbrev sendC (c : Dev nD) (d : Bool) (k : Fin 4) : GSem nD τ sig := ((c : Thread nD τ), .dma (sendS d k))
abbrev recvC (c : Dev nD) (d : Bool) (k : Fin 4) : GSem nD τ sig := ((c : Thread nD τ), .dma (recvS d k))

/-- What a semaphore is for. -/
inductive CK where
  | bar | snd (d : Bool) (k : Fin 4) | rcv (d : Bool) (k : Fin 4) | other
deriving DecidableEq

def dmaKind (n : ℕ) : CK :=
  if n < 6 then .other
  else if n < 14 then .snd (decide (10 ≤ n)) ⟨(n - 6) % 4, Nat.mod_lt _ (by decide)⟩
  else .rcv (decide (18 ≤ n)) ⟨(n - 14) % 4, Nat.mod_lt _ (by decide)⟩
def semKind : SemLoc sig → CK
  | .reg s => if s = barS then .bar else .other
  | .dma s => dmaKind s.val
def ck (g : GSem nD τ sig) : CK := if g.1.2 = .tc then semKind g.2 else .other

theorem semKind_send : ∀ (d : Bool) (k : Fin 4), semKind (.dma (sendS d k)) = .snd d k := by decide
theorem semKind_recv : ∀ (d : Bool) (k : Fin 4), semKind (.dma (recvS d k)) = .rcv d k := by decide
theorem semKind_out : ∀ (d : Bool) (k : Fin 2), semKind (.dma (outS d k)) = .other := by decide
theorem semKind_bar : semKind (.reg barS) = .bar := by decide
theorem ck_send (c : Dev nD) (d : Bool) (k : Fin 4) : ck (sendC c d k) = .snd d k := (if_pos rfl).trans (semKind_send d k)
theorem ck_recv (c : Dev nD) (d : Bool) (k : Fin 4) : ck (recvC c d k) = .rcv d k := (if_pos rfl).trans (semKind_recv d k)
theorem ck_bar (c : Dev nD) : ck (barC c) = .bar := (if_pos rfl).trans semKind_bar

/-- The credit of a message. -/
def N : ℕ := (rM false 0).view.dmaCredit
theorem rCredit (d : Bool) (k : Fin 4) : (rM d k).view.dmaCredit = N := rfl
theorem sCredit (d : Bool) : (sM d).view.dmaCredit = N := rfl
theorem N_pos : 0 < N := View.dmaCredit_pos _ (by decide)

/-! ## The schedule -/

section Sched
variable (X : Dev nD → Vec F S4096x256 .bf16) (W : Dev nD → Vec F S256x8192 .bf16)

/-- Device `c` may send message `g` of direction `d`: it holds the slot it lands in, and the slot's previous message has been taken. -/
def perm (c : Dev nD) (d : Bool) (g : ℕ) : sProp 𝕄 :=
  iprop(ownAny (F := F) (nb d c) (rM d (sl g)) ∗ reached (ER (F := F)) (recvC (nb d c) d (sl g)) (g / 4))

/-- What the receiver of message `g` gets: the block, and the right to send the next message back. -/
def recvPay (c : Dev nD) (d : Bool) (g : ℕ) : sProp 𝕄 :=
  iprop(own c (rM d (sl g)) fullShare (V X W d g (fr d c)) ∗ (if g + 1 < 30 then perm c (!d) (g + 1) else iprop(emp)))

/-- What the sender of message `g` gets back: what it lent of the block it sent. -/
def sendPay (c : Dev nD) (d : Bool) (g : ℕ) : sProp 𝕄 :=
  if g ≤ 15 then own c (sM d) fullShare (V X W d g c) else own c (rM d (sl (g - 1))) fullShare.left (V X W d g c)

def Rd : Rounds.Schedule (GSem nD τ sig) Bool 𝕄 where
  duties g r := match ck g with
    | .bar => if r = 0 then Finset.univ else ∅
    | .snd _ k => if 4 * r + k.val < 30 then {false} else ∅
    | .rcv _ k => if 4 * r + k.val < 30 then {false} else ∅
    | .other => ∅
  unitless _ := False
  amount g _ _ := match ck g with
    | .bar => 1
    | _ => N
  payload g r b := match ck g with
    | .bar => perm g.1.1 b 0
    | .snd d k => sendPay X W g.1.1 d (4 * r + k.val)
    | .rcv d k => recvPay X W g.1.1 d (4 * r + k.val)
    | .other => iprop(emp)
  amount_pos g _ _ _ := by
    cases ck g
    · exact Nat.one_pos
    all_goals exact N_pos

instance perm_storable (c : Dev nD) (d : Bool) (g : ℕ) : BI.Storable (upEmb : UEmb _ 𝕄) (perm (F := F) c d g) := by
  unfold perm; infer_instance
instance recvPay_storable (c : Dev nD) (d : Bool) (g : ℕ) : BI.Storable (upEmb : UEmb _ 𝕄) (recvPay X W c d g) := by
  unfold recvPay; split <;> infer_instance
instance sendPay_storable (c : Dev nD) (d : Bool) (g : ℕ) : BI.Storable (upEmb : UEmb _ 𝕄) (sendPay X W c d g) := by
  unfold sendPay; split <;> infer_instance
instance Rd_storable (g : GSem nD τ sig) (r : ℕ) (b : Bool) : BI.Storable (upEmb : UEmb _ 𝕄) ((Rd X W).payload g r b) := by
  dsimp only [Rd]; split <;> infer_instance

variable (c : Dev nD) (d : Bool) {g : ℕ}

theorem duties_bar : (Rd X W).duties (barC c) 0 = Finset.univ := by
  dsimp only [Rd]; rw [ck_bar]; rfl
theorem duties_send (h : g < 30) : (Rd X W).duties (sendC c d (sl g)) (g / 4) = {false} := by
  dsimp only [Rd]; rw [ck_send]; exact if_pos (by rw [msg_eq]; exact h)
theorem duties_recv (h : g < 30) : (Rd X W).duties (recvC c d (sl g)) (g / 4) = {false} := by
  dsimp only [Rd]; rw [ck_recv]; exact if_pos (by rw [msg_eq]; exact h)
theorem duties_bar_later (r : ℕ) (h : 1 ≤ r) : (Rd X W).duties (barC c) r = ∅ := by
  dsimp only [Rd]; rw [ck_bar]; exact if_neg (by omega)
theorem duties_send_later (h : 30 ≤ g) (r : ℕ) (hr : g / 4 ≤ r) : (Rd X W).duties (sendC c d (sl g)) r = ∅ := by
  dsimp only [Rd]; rw [ck_send]; exact if_neg (by have := msg_eq g; omega)
theorem duties_recv_later (h : 30 ≤ g) (r : ℕ) (hr : g / 4 ≤ r) : (Rd X W).duties (recvC c d (sl g)) r = ∅ := by
  dsimp only [Rd]; rw [ck_recv]; exact if_neg (by have := msg_eq g; omega)

theorem amount_bar (r : ℕ) (b : Bool) : (Rd X W).amount (barC c) r b = 1 := by dsimp only [Rd]; rw [ck_bar]
theorem amount_send (k : Fin 4) (r : ℕ) (b : Bool) : (Rd X W).amount (sendC c d k) r b = N := by dsimp only [Rd]; rw [ck_send]
theorem amount_recv (k : Fin 4) (r : ℕ) (b : Bool) : (Rd X W).amount (recvC c d k) r b = N := by dsimp only [Rd]; rw [ck_recv]

theorem expect_bar : (Rd X W).expect (barC c) 0 = 2 := by
  unfold Schedule.expect Schedule.amountOf
  rw [duties_bar, Finset.sum_congr rfl fun b _ => amount_bar X W c 0 b, Finset.sum_const, Finset.card_univ, Fintype.card_bool, smul_eq_mul]
theorem expect_send (h : g < 30) : (Rd X W).expect (sendC c d (sl g)) (g / 4) = N := by
  unfold Schedule.expect Schedule.amountOf; rw [duties_send X W c d h, Finset.sum_singleton, amount_send]
theorem expect_recv (h : g < 30) : (Rd X W).expect (recvC c d (sl g)) (g / 4) = N := by
  unfold Schedule.expect Schedule.amountOf; rw [duties_recv X W c d h, Finset.sum_singleton, amount_recv]

theorem payload_bar (r : ℕ) (b : Bool) : (Rd X W).payload (barC c) r b = perm c b 0 := by dsimp only [Rd]; rw [ck_bar]
theorem payload_send (b : Bool) : (Rd X W).payload (sendC c d (sl g)) (g / 4) b = sendPay X W c d g := by
  dsimp only [Rd]; rw [ck_send]; show sendPay X W c d (4 * (g / 4) + (sl g).val) = _; rw [msg_eq]
theorem payload_recv (b : Bool) : (Rd X W).payload (recvC c d (sl g)) (g / 4) b = recvPay X W c d g := by
  dsimp only [Rd]; rw [ck_recv]; show recvPay X W c d (4 * (g / 4) + (sl g).val) = _; rw [msg_eq]

theorem rest_bar : bigSep ((Rd X W).duties (barC c) 0 \ ∅) (fun b => (Rd X W).payload (barC c) 0 b) = iprop(perm c false 0 ∗ perm c true 0) := by
  rw [Finset.sdiff_empty, duties_bar, bigSep_univ_eq_bigSepL [false, true] (by decide) (by decide), bigSepL_cons_cons, bigSepL_singleton,
    payload_bar, payload_bar]
  rfl
theorem rest_send (h : g < 30) : bigSep ((Rd X W).duties (sendC c d (sl g)) (g / 4) \ ∅) (fun b => (Rd X W).payload (sendC c d (sl g)) (g / 4) b) = sendPay X W c d g := by
  rw [Finset.sdiff_empty, duties_send X W c d h, bigSep_singleton, payload_send]
theorem rest_recv (h : g < 30) : bigSep ((Rd X W).duties (recvC c d (sl g)) (g / 4) \ ∅) (fun b => (Rd X W).payload (recvC c d (sl g)) (g / 4) b) = recvPay X W c d g := by
  rw [Finset.sdiff_empty, duties_recv X W c d h, bigSep_singleton, payload_recv]

end Sched

/-! ## What a device owes; the levels -/

/-- A credit of message `g`, at the receiver. -/
abbrev due (c : Dev nD) (d : Bool) (g : ℕ) : CellTallies nD τ sig ℕ := tallyAt (recvC (nb d c) d (sl g)) g N

/-- What device `c` owes before it sends message `g`: the credits of the messages `g`, …, 29 of both directions. -/
def O (c : Dev nD) (g : ℕ) : CellTallies nD τ sig ℕ := ∑ i ∈ Finset.Ico g 30, (due c true i + due c false i)
/-- … and at launch: a unit to each neighbour's barrier semaphore besides. -/
def O₀ (c : Dev nD) : CellTallies nD τ sig ℕ := O c 0 + tallyAt (barC (nb false c)) 0 1 + tallyAt (barC (nb true c)) 0 1

theorem O_step (c : Dev nD) {g : ℕ} (h : g < 30) : O c g = O c (g + 1) + due c true g + due c false g := by
  unfold O; rw [Ring.sum_Ico_succ h, add_comm, add_assoc]
theorem O_30 (c : Dev nD) : O c 30 = 0 := by unfold O; rw [Finset.Ico_self, Finset.sum_empty]

def L (g : GSem nD τ sig) : Finset ℕ := if g.1.2 = .tc then Finset.range 40 else ∅
/-- A barrier cell is at 1, a receive cell at 2 plus the number of the message, everything else at 0. -/
def lv (g : GSem nD τ sig) (i : ℕ) : ℕ := match ck g with
  | .bar => 1
  | .rcv _ _ => 2 + i
  | _ => 0

theorem L_of_ne (g : GSem nD τ sig) (h : g.1.2 ≠ .tc) : L g = ∅ := if_neg h
theorem mem_L (c : Dev nD) (sm : SemLoc sig) {i : ℕ} (h : i < 40) : i ∈ L ((c : Thread nD τ), sm) := by
  unfold L; rw [if_pos rfl]; exact Finset.mem_range.mpr h

/-- Everything `T` owes is a receive credit of a message from `m` on. -/
def From (m : ℕ) (T : CellTallies nD τ sig ℕ) : Prop :=
  ∀ (g : GSem nD τ sig) (i : ℕ), 0 < T g i → (∃ c d k, g = recvC c d k) ∧ m ≤ i ∧ i < 30

theorem From.add {m : ℕ} {T T' : CellTallies nD τ sig ℕ} (h : From m T) (h' : From m T') : From m (T + T') := fun g i hg => by
  rw [Pi.add_apply, Finsupp.add_apply] at hg
  rcases Nat.lt_or_ge 0 (T g i) with h1 | h1
  · exact h g i h1
  · exact h' g i (by omega)
theorem From.zero (m : ℕ) : From m (0 : CellTallies nD τ sig ℕ) := fun g i hg => absurd hg (Nat.lt_irrefl 0)
theorem From.due (c : Dev nD) (d : Bool) {m g : ℕ} (h : m ≤ g) (h' : g < 30) : From m (due c d g) := fun s i hg => by
  rw [tallyAt_apply] at hg
  by_cases hh : s = recvC (nb d c) d (sl g) ∧ i = g
  · exact ⟨⟨_, _, _, hh.1⟩, by omega, by omega⟩
  · rw [if_neg hh] at hg; exact absurd hg (Nat.lt_irrefl 0)
theorem From.sum (c : Dev nD) {m : ℕ} (s : Finset ℕ) (h : ∀ i ∈ s, m ≤ i ∧ i < 30) : From m (∑ i ∈ s, (KProof.due c true i + KProof.due c false i)) := by
  induction s using Finset.induction_on with
  | empty => rw [Finset.sum_empty]; exact From.zero m
  | insert a s ha ih =>
    rw [Finset.sum_insert ha]
    have h1 := h a (Finset.mem_insert_self _ _)
    exact ((From.due c true h1.1 h1.2).add (From.due c false h1.1 h1.2)).add (ih fun i hi => h i (Finset.mem_insert_of_mem hi))
theorem O_from (c : Dev nD) (m : ℕ) : From m (O c m) := From.sum c _ fun i hi => by
  rw [Finset.mem_Ico] at hi; exact hi

theorem mayWait_from (c : Dev nD) (sm : SemLoc sig) (i m : ℕ) {T : CellTallies nD τ sig ℕ} (hT : From m T) (hi : i < 40) (hl : lv ((c : Thread nD τ), sm) i < 2 + m) :
    (levAts L lv : sProp 𝕄) ⊢ MayWait (c : Thread nD τ) sm i T :=
  MayOwe.of_cut (L := L) (lev := lv) (1 + m)
    (fun p hp => by rw [Finset.mem_singleton.mp hp]; exact mem_L c sm hi)
    (fun g j hg => by obtain ⟨⟨c', d, k, rfl⟩, h1, h2⟩ := hT g j hg; exact mem_L c' _ (by omega))
    (fun p hp => by rw [Finset.mem_singleton.mp hp]; show lv ((c : Thread nD τ), sm) i ≤ _; omega)
    (fun g j hg => by
      obtain ⟨⟨c', d, k, rfl⟩, h1, h2⟩ := hT g j hg
      unfold lv; rw [ck_recv]; show 1 + m < 2 + j; omega)

theorem lv_send (c : Dev nD) (d : Bool) (k : Fin 4) (i : ℕ) : lv (sendC c d k) i = 0 := by unfold lv; rw [ck_send]
theorem lv_recv (c : Dev nD) (d : Bool) (k : Fin 4) (i : ℕ) : lv (recvC c d k) i = 2 + i := by unfold lv; rw [ck_recv]
theorem lv_bar (c : Dev nD) (i : ℕ) : lv (barC c) i = 1 := by unfold lv; rw [ck_bar]
theorem lv_out (c : Dev nD) (d : Bool) (k : Fin 2) (i : ℕ) : lv ((c : Thread nD τ), .dma (outS d k)) i = 0 := by
  unfold lv; rw [show ck ((c : Thread nD τ), .dma (outS d k)) = .other from (if_pos rfl).trans (semKind_out d k)]

end Cert.KProof

end
-- ==== Proof.Rules.lean ====
/-
One rule for each operation of the protocol: a message sent, the two waits for it, the two signals and the barrier's wait.
-/
module

public import proofs.«01_k».proof.Proof.Sched
public import Idealize.ShloMosaic.Lib.MemrefSat

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Rules
variable (X : Dev nD → Vec F S4096x256 .bf16) (W : Dev nD → Vec F S256x8192 .bf16)

/-! ## What every device knows -/

/-- The cells of a device: its barrier cell, and the send (`false`) and receive (`true`) cell of each direction and slot. -/
abbrev CI : Type := Option (Bool × Bool × Fin 4)
def csem : CI → SemLoc sig
  | none => .reg barS
  | some (false, d, k) => .dma (sendS d k)
  | some (true, d, k) => .dma (recvS d k)
abbrev kcell (p : Dev nD × CI) : GSem nD τ sig := ((p.1 : Thread nD τ), csem p.2)

/-- One cell's record: its invariant, under some name, and that round 0 of it is reached. -/
def cinv (g : GSem nD τ sig) : sProp 𝕄 := iprop((∃ κ, cellInv (ER (F := F)) (Rd X W) κ g) ∗ reached (ER (F := F)) g 0)
instance cinv_persistent (g : GSem nD τ sig) : BI.Persistent (cinv X W g) := by unfold cinv; infer_instance

/-- The levels of all cells. -/
def levs : sProp 𝕄 := levAts L lv
instance levs_persistent : BI.Persistent (levs (F := F)) := by unfold levs; infer_instance

/-- The records of all cells, and the levels. -/
def ctx : sProp 𝕄 := iprop(bigSep Finset.univ (fun p : Dev nD × CI => cinv X W (kcell p)) ∗ levs (F := F))
instance ctx_persistent : BI.Persistent (ctx X W) := by unfold ctx; infer_instance

theorem ctx_cell (p : Dev nD × CI) : ctx X W ⊢ cinv X W (kcell p) := by
  unfold ctx
  iintro ⟨H, -⟩
  iapply (show bigSep Finset.univ (fun p : Dev nD × CI => cinv X W (kcell p)) ⊢ cinv X W (kcell p) from bigSep_elim (Finset.mem_univ p)) $$ H
theorem ctx_bar (c : Dev nD) : ctx X W ⊢ cinv X W (barC c) := ctx_cell X W (c, none)
theorem ctx_send (c : Dev nD) (d : Bool) (k : Fin 4) : ctx X W ⊢ cinv X W (sendC c d k) := ctx_cell X W (c, some (false, d, k))
theorem ctx_recv (c : Dev nD) (d : Bool) (k : Fin 4) : ctx X W ⊢ cinv X W (recvC c d k) := ctx_cell X W (c, some (true, d, k))
theorem ctx_lev : ctx X W ⊢ levs (F := F) := by
  unfold ctx
  iintro ⟨-, H⟩
  iexact H

/-! ## Positions, tokens, debts -/

/-- Device `c` is about to wait for message `g` at its send cell. -/
def spos (c : Dev nD) (d : Bool) (g : ℕ) : sProp 𝕄 :=
  iprop(atPos (ER (F := F)) (sendC c d (sl g)) (g / 4) ∅ 0 ∗ reached (ER (F := F)) (sendC c d (sl g)) (g / 4))
/-- … at its receive cell. -/
def rpos (c : Dev nD) (d : Bool) (g : ℕ) : sProp 𝕄 :=
  iprop(atPos (ER (F := F)) (recvC c d (sl g)) (g / 4) ∅ 0 ∗ reached (ER (F := F)) (recvC c d (sl g)) (g / 4))
/-- Device `c`'s tokens for message `g`: to credit its own send cell and the neighbour's receive cell. -/
def tok (c : Dev nD) (d : Bool) (g : ℕ) : sProp 𝕄 :=
  iprop(dutyTok (ER (F := F)) (sendC c d (sl g)) (g / 4) false ∗ dutyTok (ER (F := F)) (recvC (nb d c) d (sl g)) (g / 4) false)
/-- The credit device `c` will receive message `g` with. -/
def crd (c : Dev nD) (d : Bool) (g : ℕ) : sProp 𝕄 := cred (tallyAt (recvC c d (sl g)) g N)
/-- The credit device `c` waits for its own message with. -/
def scrd (c : Dev nD) (d : Bool) (g : ℕ) : sProp 𝕄 := cred (tallyAt (sendC c d (sl g)) 0 N)
/-- Device `c` owes `T`. -/
def owing (c : Dev nD) (T : CellTallies nD τ sig ℕ) : sProp 𝕄 := iprop(∃ Wt, owes (c : Thread nD τ) T Wt)
/-- The slot for message `g`, where there is no such message to hand it over with. -/
def left (c : Dev nD) (d : Bool) (g : ℕ) : sProp 𝕄 := if g < 30 then iprop(emp) else ownAny (F := F) c (rM d (sl g))

variable (c : Dev nD) (d : Bool) (g : ℕ) {Q : Post F} {K : PG F}

/-- Message `g` is sent, from `src`, which reads the message's contents. -/
theorem wp_opSend (hg : g < 30) (src : Memref sig .tc .vmem S256x4096 .bf16) (hs : src.view.WordExact) (q : PosShare TreeShare)
    (hpay : own c src q (V X W d g c) ⊢ sendPay X W c d g) (T : CellTallies nD τ sig ℕ) :
    iprop(ctx X W ∗ own c src q (V X W d g c) ∗ perm c d g ∗ ownAny c (rM (!d) (sl (g + 1)))
        ∗ reached (ER (F := F)) (recvC c (!d) (sl (g + 1))) ((g + 1) / 4)
        ∗ reached (ER (F := F)) (sendC c d (sl g)) (g / 4) ∗ tok c d g ∗ owing c (T + due c d g))
      ⊢ iprop((iprop(scrd c d g ∗ owing c T ∗ left c (!d) (g + 1)) -∗ WP F c K Q) -∗ WP F c (opSend c d (sl g) src hs K) Q) := by
  iintro ⟨#Hctx, Hsrc, Hperm, Hslot, #Hr', #Hrs, Htok, HO⟩ Hk
  ihave #Hc1 := (ctx_send X W c d (sl g)) $$ Hctx
  ihave #Hc2 := (ctx_recv X W (nb d c) d (sl g)) $$ Hctx
  unfold cinv
  icases Hc1 with ⟨⟨%κ1, #Hi1⟩, -⟩
  icases Hc2 with ⟨⟨%κ2, #Hi2⟩, -⟩
  unfold perm tok owing scrd
  icases Hperm with ⟨⟨%Z, Hdst⟩, #Hrr⟩
  icases Htok with ⟨Ht1, Ht2⟩
  icases HO with ⟨%Wt, HO⟩
  ihave Hg := (show iprop(ownAny c (rM (!d) (sl (g + 1))) ∗ reached (ER (F := F)) (recvC c (!d) (sl (g + 1))) ((g + 1) / 4))
      ⊢ iprop((if g + 1 < 30 then perm (nb d c) (!d) (g + 1) else iprop(emp)) ∗ left c (!d) (g + 1)) from by
    unfold left perm
    rw [nb_nb]
    iintro ⟨H1, H2⟩
    by_cases h : g + 1 < 30
    · rw [if_pos h, if_pos h]
      isplitl
      · isplitl [H1] <;> iassumption
      · iempintro
    · rw [if_neg h, if_neg h]
      isplitr
      · iempintro
      · iexact H1) $$ [Hslot]
  · isplitl [Hslot]; · iexact Hslot
    iexact Hr'
  icases Hg with ⟨Hgift, Hleft⟩
  unfold own owns
  icases Hsrc with ⟨%fs, %hfs, Hsrc⟩
  icases Hdst with ⟨%fd, -, Hdst⟩
  unfold opSend
  iapply (Rounds.wp_send_pointsTo_with 𝒱₀ (ER (F := F)) (Rd X W) (c : Thread nD τ) none (c' := ((nb d c : Dev nD) : Thread nD τ)) (src := src) (dst := rM d (sl g))
      (sS := .dma (sendS d (sl g))) (sem := .dma (recvS d (sl g))) (κ₁ := κ1) (κ₂ := κ2) (q := q) (fs := fs) (fd := fd)
      (F := if g + 1 < 30 then perm (nb d c) (!d) (g + 1) else iprop(emp))
      (r₁ := g / 4) (r₂ := g / 4) (d₁ := false) (d₂ := false)
      (by rw [duties_send X W c d hg]; exact Finset.mem_singleton_self _)
      (by rw [duties_recv X W (nb d c) d hg]; exact Finset.mem_singleton_self _)
      g 0 N (rCredit d (sl g)) (amount_send X W c d _ _ _) (amount_recv X W (nb d c) d _ _ _) T rfl (W := Wt)
      (by
        rw [payload_send]
        refine BIBase.Entails.trans ?_ hpay
        unfold own owns
        iintro H
        iexists fs
        isplitr; · ipureintro; exact hfs
        iexact H)
      (by
        rw [payload_recv]
        unfold recvPay
        rw [show fr d (nb d c) = c from nb_nb d c]
        iintro ⟨H, Hg⟩
        isplitl [H]
        · unfold own owns
          iexists ((rM d (sl g)).view.write (Elt F) fd (src.view.read (Elt F) fs) Finset.univ)
          isplitr; · ipureintro; exact (View.read_write_univ ..).trans hfs
          iexact H
        · iexact Hg)) $$ [Hsrc Hdst Hgift HO Ht1 Ht2]
  · isplitr; · iexact Hi1
    isplitr; · iexact Hi2
    isplitl [Hsrc]; · iexact Hsrc
    isplitl [Hdst Hgift]
    · isplitl [Hdst] <;> iassumption
    isplitl [HO]; · iexact HO
    isplitl [Ht1]; · iexact Ht1
    isplitr; · iexact Hrs
    isplitl [Ht2]; · iexact Ht2
    iexact Hrr
  iintro ⟨Hc, HO⟩
  iapply Hk
  isplitl [Hc]; · iexact Hc
  isplitl [HO]; · iexists Wt; iexact HO
  iexact Hleft

/-- The two waits of step `g` of direction `d`: what was lent of the block sent comes back, the message has arrived. -/
theorem wp_waits (hg : g < 30) (src src' : Memref sig .tc .vmem S256x4096 .bf16) (hs : src.view.WordExact) (hs' : src'.view.WordExact)
    (hN : src.view.dmaCredit = N) (T : CellTallies nD τ sig ℕ) (hT : From (g + 1) T) :
    iprop(ctx X W ∗ owing c T ∗ spos c d g ∗ rpos c d g ∗ scrd c d g ∗ crd c d g)
      ⊢ iprop((iprop(owing c T ∗ spos c d (g + 4) ∗ rpos c d (g + 4) ∗ sendPay X W c d g ∗ recvPay X W c d g) -∗ WP F c K Q)
          -∗ WP F c (opWaitSend d (sl g) src hs (opWaitRecv d (sl g) src' hs' K)) Q) := by
  iintro ⟨#Hctx, HO, Hsp, Hrp, Hsc, Hc⟩ Hk
  ihave #Hc1 := (ctx_send X W c d (sl g)) $$ Hctx
  ihave #Hc2 := (ctx_recv X W c d (sl g)) $$ Hctx
  have hlev := ctx_lev (F := F) X W
  ihave #Hlev := hlev $$ Hctx
  unfold cinv
  icases Hc1 with ⟨⟨%κ1, #Hi1⟩, -⟩
  icases Hc2 with ⟨⟨%κ2, #Hi2⟩, -⟩
  unfold spos rpos scrd crd owing
  icases HO with ⟨%Wt, HO⟩
  icases Hsp with ⟨Hsp, -⟩
  icases Hrp with ⟨Hrp, -⟩
  unfold opWaitSend opWaitRecv
  iapply (Rounds.wp_wait_rest_token 𝒱₀ (ER (F := F)) (Rd X W) (c : Thread nD τ) none (κ := κ1)
      (wpE_waitDma2_eq 𝒱₀ (c : Thread nD τ) none Set.univ) (Set.mem_univ _) 0 (O := T) (W := Wt) (R := g / 4) (m := 0) (T := ∅)
      (by rw [Nat.zero_add, expect_send X W c d hg, hN])) $$ [Hsc HO Hsp]
  · isplitr; · iexact Hi1
    rw [hN]
    isplitl [Hsc]; · iexact Hsc
    isplitl [HO]; · iexact HO
    isplitr; · iapply (mayWait_from (F := F) c _ 0 (g + 1) hT (by omega) (by rw [lv_send]; omega)); unfold levs; iexact Hlev
    iexact Hsp
  iintro ⟨HO, Hsp, #Hsr, Hpay⟩
  ihave Hpay := (Entails.of_eq (rest_send X W c d hg)) $$ Hpay
  iapply (Rounds.wp_wait_rest_token 𝒱₀ (ER (F := F)) (Rd X W) (c : Thread nD τ) none (κ := κ2)
      (wpE_waitDma2_eq 𝒱₀ (c : Thread nD τ) none Set.univ) (Set.mem_univ _) g (O := T) (R := g / 4) (m := 0) (T := ∅)
      (by rw [Nat.zero_add, expect_recv X W c d hg]; rfl)) $$ [Hc HO Hrp]
  · isplitr; · iexact Hi2
    isplitl [Hc]; · iexact Hc
    isplitl [HO]; · iexact HO
    isplitr; · iapply (mayWait_from (F := F) c _ g (g + 1) hT (by omega) (by rw [lv_recv]; omega)); unfold levs; iexact Hlev
    iexact Hrp
  iintro ⟨HO, Hrp, #Hrr, Hpay'⟩
  ihave Hpay' := (Entails.of_eq (rest_recv X W c d hg)) $$ Hpay'
  iapply Hk
  rw [sl_add4, show (g + 4) / 4 = g / 4 + 1 by omega]
  isplitl [HO]; · iexists _; iexact HO
  isplitl [Hsp]
  · isplitl [Hsp]; · iexact Hsp
    iexact Hsr
  isplitl [Hrp]
  · isplitl [Hrp]; · iexact Hrp
    iexact Hrr
  isplitl [Hpay] <;> iassumption

/-- A unit to the barrier of the neighbour that sends messages of direction `d`: with it goes the slot for the first one. -/
theorem wp_opSignal (T : CellTallies nD τ sig ℕ) :
    iprop(ctx X W ∗ dutyTok (ER (F := F)) (barC (nb (!d) c)) 0 d ∗ ownAny c (rM d (sl 0)) ∗ owing c (T + tallyAt (barC (nb (!d) c)) 0 1))
      ⊢ iprop((owing c T -∗ WP F c K Q) -∗ WP F c (opSignal (nb (!d) c) K) Q) := by
  iintro ⟨#Hctx, Htok, Hslot, HO⟩ Hk
  ihave #Hc1 := (ctx_bar X W (nb (!d) c)) $$ Hctx
  ihave #Hc2 := (ctx_recv X W c d (sl 0)) $$ Hctx
  unfold cinv owing
  icases Hc1 with ⟨⟨%κ1, #Hi1⟩, #Hr1⟩
  icases Hc2 with ⟨-, #Hr2⟩
  icases HO with ⟨%Wt, HO⟩
  unfold opSignal
  iapply (Rounds.wp_signal 𝒱₀ (ER (F := F)) (Rd X W) (c : Thread nD τ) none (dst := ((nb (!d) c : Dev nD) : Thread nD τ)) (κ := κ1) (r := 0)
      (d := d) (by rw [duties_bar]; exact Finset.mem_univ _) ((amount_bar X W (nb (!d) c) 0 d).trans (by decide)) 0 T rfl) $$ [HO Htok Hslot]
  · isplitr; · iexact Hi1
    isplitl [HO]; · iexact HO
    isplitl [Htok]; · iexact Htok
    isplitl [Hslot]
    · rw [payload_bar]; unfold perm; rw [nb_nb']
      isplitl [Hslot]; · iexact Hslot
      iexact Hr2
    · iexact Hr1
  iintro HO
  iapply Hk
  iexists Wt; iexact HO

/-- The wait for both neighbours' units: both may be sent the first message. -/
theorem wp_opBarrier (T : CellTallies nD τ sig ℕ) (hT : From 0 T) :
    iprop(ctx X W ∗ cred (tallyAt (barC c) 0 2) ∗ atPos (ER (F := F)) (barC c) 0 ∅ 0 ∗ owing c T)
      ⊢ iprop((iprop(owing c T ∗ atPos (ER (F := F)) (barC c) 1 ∅ 0 ∗ perm c false 0 ∗ perm c true 0) -∗ WP F c K Q) -∗ WP F c (opBarrier K) Q) := by
  iintro ⟨#Hctx, Hc, Hat, HO⟩ Hk
  ihave #Hc1 := (ctx_bar X W c) $$ Hctx
  have hlev := ctx_lev (F := F) X W
  ihave #Hlev := hlev $$ Hctx
  unfold cinv owing
  icases Hc1 with ⟨⟨%κ1, #Hi1⟩, -⟩
  icases HO with ⟨%Wt, HO⟩
  unfold opBarrier
  iapply (Rounds.wp_wait_rest_token 𝒱₀ (ER (F := F)) (Rd X W) (c : Thread nD τ) none (κ := κ1)
      (wpE_semWait_eq 𝒱₀ (c : Thread nD τ) none Set.univ) (Set.mem_univ _) 0 (O := T) (W := Wt) (R := 0) (m := 0) (T := ∅)
      (by rw [expect_bar]; decide)) $$ [Hc HO Hat]
  · isplitr; · iexact Hi1
    isplitl [Hc]; · iexact Hc
    isplitl [HO]; · iexact HO
    isplitr; · iapply (mayWait_from (F := F) c _ 0 0 hT (by omega) (by rw [lv_bar]; omega)); unfold levs; iexact Hlev
    iexact Hat
  iintro ⟨HO, Hat, -, Hpay⟩
  ihave Hpay := (Entails.of_eq (rest_bar X W c)) $$ Hpay
  icases Hpay with ⟨Hp0, Hp1⟩
  iapply Hk
  isplitl [HO]; · iexists _; iexact HO
  isplitl [Hat]; · iexact Hat
  isplitl [Hp0] <;> iassumption

/-- The wait for a copy of a staged chunk, in this form. -/
theorem wp_copyWait (k : Fin 2) (i : Fin 16) (Y : FVec F S256x4096 .f32) (T : CellTallies nD τ sig ℕ) (hT : From 0 T) :
    iprop(ctx X W ∗ Copying c d k i Y ∗ owing c T)
      ⊢ iprop((iprop(own c (cM c d i) fullShare Y ∗ ownAny c (oM d k) ∗ semVal ((c : Thread nD τ), .dma (outS d k)) 0 ∗ owing c T) -∗ WP F c K Q)
          -∗ WP F c (opWaitCopy c d k i K) Q) := by
  iintro ⟨#Hctx, Hf, HO⟩ Hk
  have hlev := ctx_lev (F := F) X W
  ihave #Hlev := hlev $$ Hctx
  unfold owing
  icases HO with ⟨%Wt, HO⟩
  iapply (wp_opWaitCopy c d k i Y (O := T) (W := Wt)) $$ [Hf HO]
  · isplitl [Hf]; · iexact Hf
    isplitl [HO]; · iexact HO
    iapply (mayWait_from (F := F) c _ 0 0 hT (by omega) (by rw [lv_out]; omega)); unfold levs; iexact Hlev
  iintro ⟨⟨H1, H2⟩, Hv, HO⟩
  iapply Hk
  isplitl [H1]; · iexact H1
  isplitl [H2]; · iexact H2
  isplitl [Hv]; · iexact Hv
  iexists _; iexact HO

end Rules

end Cert.KProof

end
-- ==== Proof.Steps.lean ====
/-
The steps of the two loops: what a device holds before message `g`, and that each step takes it to the next.
-/
module

public import proofs.«01_k».proof.Proof.Rules
public import Idealize.SL.BI.BigOpNat

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Steps
variable (X : Dev nD → Vec F S4096x256 .bf16) (W : Dev nD → Vec F S256x8192 .bf16)

/-! ## What a device holds before it sends message `g` -/

def pos (c : Dev nD) (d : Bool) (g : ℕ) : sProp 𝕄 := iprop(spos (F := F) c d g ∗ rpos c d g)
/-- The right to send message `g`; past the last one, the slot that was not handed over. -/
def right (c : Dev nD) (d : Bool) (g : ℕ) : sProp 𝕄 := if g < 30 then perm c d g else ownAny (F := F) c (rM d (sl g))
/-- What message `g` brings besides its block: the right to send message `g` the other way, where there is one. -/
def gift (c : Dev nD) (d : Bool) (g : ℕ) : sProp 𝕄 := if g < 30 then perm c d g else iprop(emp)
def toks (c : Dev nD) (d : Bool) (g : ℕ) : sProp 𝕄 := bigSep (Finset.Ico g 30) (fun i => iprop(tok (F := F) c d i ∗ crd c d i))

/-- Before message `g` of direction `d`: the right to send it, the positions of four messages, the tokens from here on,
    two free slots. (The fourth slot holds what message `g - 1` brought.) -/
def Core (c : Dev nD) (d : Bool) (g : ℕ) : sProp 𝕄 :=
  iprop(right (F := F) c d g ∗ pos c d g ∗ pos c d (g + 1) ∗ pos c d (g + 2) ∗ pos c d (g + 3) ∗ toks c d g
    ∗ ownAny c (rM d (sl (g + 1))) ∗ ownAny c (rM d (sl (g + 2))))
/-- … while message `g` is under way. -/
def Mid (c : Dev nD) (d : Bool) (g : ℕ) : sProp 𝕄 :=
  iprop((scrd (F := F) c d g ∗ crd c d g) ∗ left c d (g + 1) ∗ pos c d g ∗ pos c d (g + 1) ∗ pos c d (g + 2) ∗ pos c d (g + 3) ∗ toks c d (g + 1)
    ∗ ownAny c (rM d (sl (g + 2))))
/-- … after the waits for it. -/
def Aft (c : Dev nD) (d : Bool) (g : ℕ) : sProp 𝕄 :=
  iprop(left (F := F) c d (g + 1) ∗ pos c d (g + 1) ∗ pos c d (g + 2) ∗ pos c d (g + 3) ∗ pos c d (g + 4) ∗ toks c d (g + 1)
    ∗ ownAny c (rM d (sl (g + 2))))

variable (c : Dev nD) {Q : Post F} {K : PG F}

theorem toks_step (d : Bool) {g : ℕ} (h : g < 30) : toks (F := F) c d g ⊢ iprop((tok c d g ∗ crd c d g) ∗ toks c d (g + 1)) := by
  unfold toks; rw [bigSep_Ico_succ_bot h]

theorem right_join (d : Bool) (g : ℕ) : iprop(gift (F := F) c d g ∗ left c d g) ⊢ right c d g := by
  unfold gift left right
  by_cases h : g < 30
  · rw [if_pos h, if_pos h, if_pos h]; iintro ⟨H, -⟩; iexact H
  · rw [if_neg h, if_neg h, if_neg h]; iintro ⟨-, H⟩; iexact H

theorem aft_core (d : Bool) (g : ℕ) :
    iprop(Aft (F := F) c d g ∗ gift c d (g + 1) ∗ ownAny c (rM d (sl (g + 3)))) ⊢ Core c d (g + 1) := by
  unfold Aft Core
  iintro ⟨⟨Hl, Hp1, Hp2, Hp3, Hp4, Ht, Hs⟩, Hg, Hs'⟩
  isplitl [Hl Hg]
  · iapply (right_join c d (g + 1))
    isplitl [Hg] <;> iassumption
  isplitl [Hp1]; · iexact Hp1
  isplitl [Hp2]; · iexact Hp2
  isplitl [Hp3]; · iexact Hp3
  isplitl [Hp4]; · iexact Hp4
  isplitl [Ht]; · iexact Ht
  isplitl [Hs] <;> iassumption

/-- Both messages `g` are sent. -/
theorem wp_sends {g : ℕ} (hg : g < 30) (src : Bool → Memref sig .tc .vmem S256x4096 .bf16) (hs : ∀ d, (src d).view.WordExact) (q : PosShare TreeShare)
    (hpay : ∀ d, own c (src d) q (V X W d g c) ⊢ sendPay X W c d g) :
    iprop(ctx X W ∗ owing c (O c g) ∗ (Core c false g ∗ own c (src false) q (V X W false g c)) ∗ (Core c true g ∗ own c (src true) q (V X W true g c)))
      ⊢ iprop((iprop(owing c (O c (g + 1)) ∗ Mid c false g ∗ Mid c true g) -∗ WP F c K Q)
          -∗ WP F c (opSend c false (sl g) (src false) (hs false) (opSend c true (sl g) (src true) (hs true) K)) Q) := by
  unfold Core right
  rw [if_pos hg, if_pos hg, O_step c hg]
  iintro ⟨#Hctx, HO, ⟨⟨Hr, Hp, Hp1, Hp2, Hp3, Ht, Hs1, Hs2⟩, Hsrc⟩, ⟨⟨Gr, Gp, Gp1, Gp2, Gp3, Gt, Gs1, Gs2⟩, Gsrc⟩⟩ Hk
  ihave Ht := (toks_step c false hg) $$ Ht
  ihave Gt := (toks_step c true hg) $$ Gt
  icases Ht with ⟨⟨Ht, Hc⟩, Hts⟩
  icases Gt with ⟨⟨Gt, Gc⟩, Gts⟩
  unfold pos spos rpos
  icases Hp with ⟨⟨Hpa, #Hpr⟩, Hpb⟩
  icases Gp with ⟨⟨Gpa, #Gpr⟩, Gpb⟩
  icases Hp1 with ⟨Hp1a, ⟨Hp1b, #Hp1r⟩⟩
  icases Gp1 with ⟨Gp1a, ⟨Gp1b, #Gp1r⟩⟩
  iapply (wp_opSend X W c false g hg (src false) (hs false) q (hpay false) (O c (g + 1) + due c true g)) $$ [Hsrc Hr Gs1 Ht HO]
  · isplitr; · iexact Hctx
    isplitl [Hsrc]; · iexact Hsrc
    isplitl [Hr]; · iexact Hr
    isplitl [Gs1]; · iexact Gs1
    isplitr; · iexact Gp1r
    isplitr; · iexact Hpr
    isplitl [Ht]; · iexact Ht
    iexact HO
  iintro ⟨Hsc, HO, Gl⟩
  iapply (wp_opSend X W c true g hg (src true) (hs true) q (hpay true) (O c (g + 1))) $$ [Gsrc Gr Hs1 Gt HO]
  · isplitr; · iexact Hctx
    isplitl [Gsrc]; · iexact Gsrc
    isplitl [Gr]; · iexact Gr
    isplitl [Hs1]; · iexact Hs1
    isplitr; · iexact Hp1r
    isplitr; · iexact Gpr
    isplitl [Gt]; · iexact Gt
    iexact HO
  iintro ⟨Gsc, HO, Hl⟩
  iapply Hk
  isplitl [HO]; · iexact HO
  unfold Mid pos spos rpos
  isplitl [Hsc Hc Hl Hpa Hpb Hp1a Hp1b Hp2 Hp3 Hts Hs2]
  · isplitl [Hsc Hc]
    · isplitl [Hsc] <;> iassumption
    isplitl [Hl]; · iexact Hl
    isplitl [Hpa Hpb]
    · isplitl [Hpa]
      · isplitl; · iexact Hpa
        iexact Hpr
      iexact Hpb
    isplitl [Hp1a Hp1b]
    · isplitl [Hp1a]; · iexact Hp1a
      isplitl; · iexact Hp1b
      iexact Hp1r
    isplitl [Hp2]; · iexact Hp2
    isplitl [Hp3]; · iexact Hp3
    isplitl [Hts] <;> iassumption
  · isplitl [Gsc Gc]
    · isplitl [Gsc] <;> iassumption
    isplitl [Gl]; · iexact Gl
    isplitl [Gpa Gpb]
    · isplitl [Gpa]
      · isplitl; · iexact Gpa
        iexact Gpr
      iexact Gpb
    isplitl [Gp1a Gp1b]
    · isplitl [Gp1a]; · iexact Gp1a
      isplitl; · iexact Gp1b
      iexact Gp1r
    isplitl [Gp2]; · iexact Gp2
    isplitl [Gp3]; · iexact Gp3
    isplitl [Gts] <;> iassumption

/-- Both waits of one direction. -/
theorem wp_waitsMid (d : Bool) {g : ℕ} (hg : g < 30) (src src' : Memref sig .tc .vmem S256x4096 .bf16) (hs : src.view.WordExact) (hs' : src'.view.WordExact)
    (hN : src.view.dmaCredit = N) :
    iprop(ctx X W ∗ owing c (O c (g + 1)) ∗ Mid c d g)
      ⊢ iprop((iprop(owing c (O c (g + 1)) ∗ Aft c d g ∗ sendPay X W c d g ∗ own c (rM d (sl g)) fullShare (V X W d g (fr d c)) ∗ gift c (!d) (g + 1)) -∗ WP F c K Q)
          -∗ WP F c (opWaitSend d (sl g) src hs (opWaitRecv d (sl g) src' hs' K)) Q) := by
  unfold Mid pos
  iintro ⟨#Hctx, HO, ⟨Hsc, Hc⟩, Hl, ⟨Hp, Hp'⟩, Hp1, Hp2, Hp3, Ht, Hs⟩ Hk
  iapply (wp_waits X W c d g hg src src' hs hs' hN (O c (g + 1)) (O_from c (g + 1))) $$ [HO Hp Hp' Hsc Hc]
  · isplitr; · iexact Hctx
    isplitl [HO]; · iexact HO
    isplitl [Hp]; · iexact Hp
    isplitl [Hp']; · iexact Hp'
    isplitl [Hsc] <;> iassumption
  unfold recvPay
  iintro ⟨HO, Hp, Hp', Hpay, Hr, Hg⟩
  iapply Hk
  isplitl [HO]; · iexact HO
  isplitr [Hpay Hr Hg]
  · unfold Aft pos
    isplitl [Hl]; · iexact Hl
    isplitl [Hp1]; · iexact Hp1
    isplitl [Hp2]; · iexact Hp2
    isplitl [Hp3]; · iexact Hp3
    isplitl [Hp Hp']
    · isplitl [Hp] <;> iassumption
    isplitl [Ht] <;> iassumption
  isplitl [Hpay]; · iexact Hpay
  isplitl [Hr]; · iexact Hr
  unfold gift; iexact Hg

/-! ## The reduce-scatter -/

theorem sendPay_low (d : Bool) {g : ℕ} (h : g ≤ 15) : sendPay X W c d g ⊢ own c (sM d) fullShare (V X W d g c) := by
  unfold sendPay; rw [if_pos h]
theorem sendPay_high (d : Bool) {g : ℕ} (h : ¬ g ≤ 15) : sendPay X W c d g ⊢ own c (rM d (sl (g - 1))) fullShare.left (V X W d g c) := by
  unfold sendPay; rw [if_neg h]
theorem own_any (m : Memref sig .tc .vmem S256x4096 .bf16) (Y : Vec F S256x4096 .bf16) : own c m fullShare Y ⊢ ownAny c m := by
  unfold ownAny; iintro H; iexists Y; iexact H
theorem slot_next (d : Bool) (g : ℕ) : ownAny (F := F) c (rM d (sl g)) ⊢ ownAny c (rM d (sl (g + 1 + 3))) := by
  rw [show g + 1 + 3 = g + 4 by omega, sl_add4]

/-- Before step `g` of the reduction, direction `d`. -/
def RS (d : Bool) (g : ℕ) : sProp 𝕄 :=
  iprop(own c (sM d) fullShare (A X W d g c) ∗ Core c d g ∗ ownAny c (rM d (sl (g + 3))))

/-- The staged arguments. -/
def args (xM : Memref sig .tc .vmem S4096x256 .bf16) (wM : Memref sig .tc .vmem S256x8192 .bf16) : sProp 𝕄 :=
  iprop(own c xM fullShare (X c) ∗ own c wM fullShare (W c))

theorem wp_loadXW (xM : Memref sig .tc .vmem S4096x256 .bf16) (wM : Memref sig .tc .vmem S256x8192 .bf16) (d : Bool) (i : Fin 16)
    {K : Vec F S256x256 .bf16 → Vec F S256x4096 .bf16 → PG F} :
    args X W c xM wM ⊢ iprop((args X W c xM wM -∗ WP F c (K (xs (X c) c d i) (ws (W c) d)) Q)
      -∗ WP F c (opLoadX xM c d i fun x => opLoadW wM d fun w => K x w) Q) := by
  unfold args
  iintro ⟨Hx, Hw⟩ Hk
  iapply (wp_opLoadX c xM d i fullShare (X c)) $$ Hx; iintro Hx
  iapply (wp_opLoadW c wM d fullShare (W c)) $$ Hw; iintro Hw
  iapply Hk
  isplitl [Hx] <;> iassumption

theorem wp_rsRecv (d : Bool) {g : ℕ} (hg : g < 15) :
    iprop(ctx X W ∗ owing c (O c (g + 1)) ∗ Mid c d g)
      ⊢ iprop((iprop(owing c (O c (g + 1)) ∗ Aft c d g ∗ own c (sM d) fullShare (A X W d (g + 1) c) ∗ ownAny c (rM d (sl g)) ∗ gift c (!d) (g + 1)) -∗ WP F c K Q)
          -∗ WP F c (rsRecv d g (P X W d (g + 1) c) K) Q) := by
  unfold rsRecv
  rw [A_succ hg c]
  iintro ⟨#Hctx, HO, Hm⟩ Hk
  iapply (wp_waitsMid X W c d (by omega) (sM d) (sM d) (sExact d) (sExact d) (sCredit d)) $$ [HO Hm]
  · isplitr; · iexact Hctx
    isplitl [HO] <;> iassumption
  iintro ⟨HO, Ha, Hs, Hr, Hg⟩
  ihave Hs := (sendPay_low X W c d (by omega : g ≤ 15)) $$ Hs
  iapply (wp_opLoadR c d (sl g) fullShare _) $$ Hr; iintro Hr
  iapply (wp_opLoadS c d _) $$ Hs; iintro Hs
  rw [uncastR_castR]
  iapply (wp_opStoreS c d _ _) $$ Hs; iintro Hs
  iapply Hk
  isplitl [HO]; · iexact HO
  isplitl [Ha]; · iexact Ha
  isplitl [Hs]; · iexact Hs
  isplitl [Hr]; · iexists _; iexact Hr
  iexact Hg

theorem rs_send (d : Bool) {g : ℕ} (hg : g < 15) : RS X W c d g
    ⊢ iprop((Core c d g ∗ own c (sM d) fullShare (V X W d g c)) ∗ ownAny c (rM d (sl (g + 3)))) := by
  unfold RS
  rw [V_rs hg]
  iintro ⟨Hs, Hc, Hr⟩
  isplitr [Hr]
  · isplitl [Hc]
    · iexact Hc
    · iexact Hs
  · iexact Hr

theorem wp_rsIter (xM : Memref sig .tc .vmem S4096x256 .bf16) (wM : Memref sig .tc .vmem S256x8192 .bf16) (s : Fin 15) :
    iprop(ctx X W ∗ owing c (O c s.val) ∗ args X W c xM wM ∗ RS X W c false s.val ∗ RS X W c true s.val)
      ⊢ iprop((iprop(owing c (O c (s.val + 1)) ∗ args X W c xM wM ∗ RS X W c false (s.val + 1) ∗ RS X W c true (s.val + 1)) -∗ WP F c K Q)
          -∗ WP F c (rsIter xM wM c s K) Q) := by
  obtain ⟨g, hg⟩ := s
  unfold rsIter
  dsimp only
  iintro ⟨#Hctx, HO, Hargs, HR, GR⟩ Hk
  ihave HR := (rs_send X W c false hg) $$ HR
  ihave GR := (rs_send X W c true hg) $$ GR
  icases HR with ⟨HR, Hold⟩
  icases GR with ⟨GR, Gold⟩
  iapply (wp_sends X W c (by omega : g < 30) sM sExact fullShare (fun d => by unfold sendPay; rw [if_pos (by omega)])) $$ [HO HR GR]
  · isplitr; · iexact Hctx
    isplitl [HO]; · iexact HO
    isplitl [HR] <;> iassumption
  iintro ⟨HO, Hm, Gm⟩
  iapply (wp_loadXW X W c xM wM false _) $$ Hargs; iintro Hargs
  iapply (wp_loadXW X W c xM wM true _) $$ Hargs; iintro Hargs
  have hix : (⟨g, hg⟩ : Fin 15).succ = ix (g + 1) := Fin.ext (by simp only [Fin.val_succ, ix]; exact (Nat.mod_eq_of_lt (by omega)).symm)
  rw [hix]
  iapply (wp_rsRecv X W c false hg) $$ [HO Hm]
  · isplitr; · iexact Hctx
    isplitl [HO] <;> iassumption
  iintro ⟨HO, Ha, Hs, Hr, Gg⟩
  iapply (wp_rsRecv X W c true hg) $$ [HO Gm]
  · isplitr; · iexact Hctx
    isplitl [HO] <;> iassumption
  iintro ⟨HO, Ga, Gs, Gr, Hg⟩
  iapply Hk
  isplitl [HO]; · iexact HO
  isplitl [Hargs]; · iexact Hargs
  unfold RS
  isplitl [Ha Hs Hr Hg Hold]
  · isplitl [Hs]; · iexact Hs
    isplitl [Ha Hg Hold]
    · iapply (aft_core c false g)
      isplitl [Ha]; · iexact Ha
      isplitl [Hg]
      · iexact Hg
      · iexact Hold
    iapply (slot_next c false g); iexact Hr
  · isplitl [Gs]; · iexact Gs
    isplitl [Ga Gg Gold]
    · iapply (aft_core c true g)
      isplitl [Ga]; · iexact Ga
      isplitl [Gg]
      · iexact Gg
      · iexact Gold
    iapply (slot_next c true g); iexact Gr

theorem wp_rsFrom (xM : Memref sig .tc .vmem S4096x256 .bf16) (wM : Memref sig .tc .vmem S256x8192 .bf16) : ∀ (n : ℕ) (h : n ≤ 15),
    iprop(ctx X W ∗ owing c (O c (15 - n)) ∗ args X W c xM wM ∗ RS X W c false (15 - n) ∗ RS X W c true (15 - n))
      ⊢ iprop((iprop(owing c (O c 15) ∗ args X W c xM wM ∗ RS X W c false 15 ∗ RS X W c true 15) -∗ WP F c K Q)
          -∗ WP F c (rsFrom xM wM c n h K) Q)
  | 0, _ => by
    unfold rsFrom
    iintro ⟨-, H⟩ Hk
    iapply Hk $$ H
  | n + 1, h => by
    have ih := wp_rsFrom xM wM n (by omega)
    have e : 15 - (n + 1) = 14 - n := by omega
    have e' : 15 - n = 14 - n + 1 := by omega
    rw [e'] at ih
    rw [e]
    unfold rsFrom
    iintro ⟨#Hctx, H⟩ Hk
    iapply (wp_rsIter X W c xM wM ⟨14 - n, Nat.lt_succ_of_le (Nat.sub_le _ _)⟩) $$ [H]
    · isplitr; · iexact Hctx
      iexact H
    iintro H
    iapply ih $$ [H]
    · isplitr; · iexact Hctx
      iexact H
    iexact Hk

end Steps

end Cert.KProof

end
-- ==== Proof.Gather.lean ====
/-
The barrier, the all-gather and the whole program of a device.
-/
module

public import proofs.«01_k».proof.Proof.Steps
public import Idealize.ShloMosaic.Lib.MemrefSat

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem From.mono {m m' : ℕ} {T : CellTallies nD τ sig ℕ} (h : From m T) (h' : m' ≤ m) : From m' T := fun g i hg =>
  ⟨(h g i hg).1, h'.trans (h g i hg).2.1, (h g i hg).2.2⟩

section Gather
variable (X : Dev nD → Vec F S4096x256 .bf16) (W : Dev nD → Vec F S256x8192 .bf16) (c : Dev nD) {Q : Post F} {K : PG F}

/-! ## The result, chunk by chunk -/

/-- Staging slot `k`: free, or being copied to chunk `i`. -/
def stag (d : Bool) (k : Fin 2) : Option (Fin 16) → sProp 𝕄
  | none => iprop(ownAny (F := F) c (oM d k) ∗ semVal ((c : Thread nD τ), .dma (outS d k)) 0)
  | some i => Copying c d k i (OUT X W d c i)

theorem stag_none (d : Bool) (k : Fin 2) : stag X W c d k none = iprop(ownAny (F := F) c (oM d k) ∗ semVal ((c : Thread nD τ), .dma (outS d k)) 0) := rfl
theorem stag_some (d : Bool) (k : Fin 2) (i : Fin 16) : stag X W c d k (some i) = Copying c d k i (OUT X W d c i) := rfl

/-- The chunk whose copy reads the staging slot that chunk `t` takes. -/
def prevN (t : ℕ) : Option (Fin 16) := if t = 2 then none else if t = 1 then some 0 else some (ix (t - 2))

/-- The chunks copied for good before chunk `t` is staged. -/
def doneSet (t : ℕ) : Finset (Fin 16) := Finset.univ.filter fun i => i.val < t ∧ some i ≠ prevN t ∧ some i ≠ prevN (t + 1)
def todoSet (t : ℕ) : Finset (Fin 16) := Finset.univ.filter fun i => t ≤ i.val

def donePart (d : Bool) (s : Finset (Fin 16)) : sProp 𝕄 := bigSep s fun i => own c (cM c d i) fullShare (OUT X W d c i)
def todoPart (d : Bool) (s : Finset (Fin 16)) : sProp 𝕄 := bigSep s fun i => ownAny (F := F) c (cM c d i)

/-- The state of the result and the staging slots before chunk `t`. -/
def chunks (d : Bool) (t : ℕ) : sProp 𝕄 :=
  iprop(donePart X W c d (doneSet t) ∗ todoPart c d (todoSet t) ∗ stag X W c d (os t) (prevN t) ∗ stag X W c d (os (t + 1)) (prevN (t + 1)))

/-- What a copy waited for leaves. -/
def landed (d : Bool) : Option (Fin 16) → sProp 𝕄
  | none => iprop(emp)
  | some i => own c (cM c d i) fullShare (OUT X W d c i)

theorem todo_step : ∀ t : Fin 16, todoSet t.val = insert t (todoSet (t.val + 1)) ∧ t ∉ todoSet (t.val + 1) := by decide
theorem done_none : ∀ t : Fin 16, 1 ≤ t.val → prevN t.val = none → doneSet (t.val + 1) = doneSet t.val := by decide
theorem done_some : ∀ (t j : Fin 16), 1 ≤ t.val → prevN t.val = some j → doneSet (t.val + 1) = insert j (doneSet t.val) ∧ j ∉ doneSet t.val := by decide
theorem prevN_next : ∀ t : Fin 16, 1 ≤ t.val → prevN (t.val + 1 + 1) = some t := by decide
theorem agPrev_eq : ∀ t : Fin 16, 1 ≤ t.val → agPrev t = prevN t.val := by decide
theorem os_next (t : ℕ) : os (t + 1 + 1) = os t := Fin.ext (by show (t + 1 + 1 + 1) % 2 = (t + 1) % 2; omega)

theorem done_landed (d : Bool) (t : Fin 16) (h : 1 ≤ t.val) :
    iprop(donePart X W c d (doneSet t.val) ∗ landed X W c d (prevN t.val)) ⊢ donePart X W c d (doneSet (t.val + 1)) := by
  cases hp : prevN t.val with
  | none => rw [done_none t h hp]; unfold landed; iintro ⟨H, -⟩; iexact H
  | some j =>
    obtain ⟨h1, h2⟩ := done_some t j h hp
    rw [h1]; unfold donePart landed; rw [bigSep_insert h2]
    show _ ⊢ iprop(own c (cM c d j) fullShare (OUT X W d c j) ∗ bigSep (doneSet t.val) fun i => own c (cM c d i) fullShare (OUT X W d c i))
    iintro ⟨H, H'⟩
    isplitl [H']; · iexact H'
    iexact H

theorem todo_take (d : Bool) (t : Fin 16) :
    todoPart (F := F) c d (todoSet t.val) ⊢ iprop(ownAny c (cM c d t) ∗ todoPart c d (todoSet (t.val + 1))) := by
  obtain ⟨h1, h2⟩ := todo_step t
  rw [h1]; unfold todoPart; rw [bigSep_insert h2]
  exact .rfl

/-- A chunk staged from the receive buffer and its copy issued. -/
theorem wp_stage (d : Bool) (k : Fin 4) (o : Fin 2) (i : Fin 16) (q : PosShare TreeShare) (Y : FVec F S256x4096 .bf16) (hY : OUT X W d c i = hi Y) :
    iprop(own c (rM d k) q Y ∗ (ownAny c (oM d o) ∗ semVal ((c : Thread nD τ), .dma (outS d o)) 0) ∗ ownAny c (cM c d i))
      ⊢ iprop((iprop(own c (rM d k) q Y ∗ stag X W c d o (some i)) -∗ WP F c K Q)
        -∗ WP F c (opLoadR d k fun v => opLoadO d o fun _ => opStoreO d o (castO (hi (uncastR v))) <| opCopy c d o i K) Q) := by
  rw [stag_some, hY]
  iintro ⟨Hr, ⟨Ho, Hv⟩, Hc⟩ Hk
  iapply (wp_opLoadR c d k q Y) $$ Hr; iintro Hr
  iapply (wp_opLoadO c d o) $$ Ho; iintro %v Ho
  rw [uncastR_castR]
  iapply (wp_opStoreO c d o _) $$ Ho; iintro Ho
  iapply (wp_opCopy c d o i _) $$ [Ho Hc Hv]
  · isplitl [Ho]; · iexact Ho
    isplitl [Hc] <;> iassumption
  iintro H
  iapply Hk
  isplitl [Hr]; · iexact Hr
  iexact H

theorem wp_gather (d : Bool) (prev : Option (Fin 16)) (k : Fin 4) (o : Fin 2) (i : Fin 16) (q : PosShare TreeShare) (Y : FVec F S256x4096 .bf16)
    (hY : OUT X W d c i = hi Y) (T : CellTallies nD τ sig ℕ) (hT : From 0 T) :
    iprop(ctx X W ∗ owing c T ∗ own c (rM d k) q Y ∗ stag X W c d o prev ∗ ownAny c (cM c d i))
      ⊢ iprop((iprop(owing c T ∗ own c (rM d k) q Y ∗ stag X W c d o (some i) ∗ landed X W c d prev) -∗ WP F c K Q)
        -∗ WP F c (gather c d prev k o i K) Q) := by
  have hs := wp_stage X W c (Q := Q) (K := K) d k o i q Y hY
  cases prev with
  | none =>
    rw [stag_none]
    unfold gather
    dsimp only
    iintro ⟨#Hctx, HO, Hr, Hs, Hc⟩ Hk
    iapply hs $$ [Hr Hs Hc]
    · isplitl [Hr]; · iexact Hr
      isplitl [Hs]; · iexact Hs
      iexact Hc
    iintro ⟨Hr, Hs⟩
    iapply Hk
    isplitl [HO]; · iexact HO
    isplitl [Hr]; · iexact Hr
    isplitl [Hs]; · iexact Hs
    unfold landed
    iempintro
  | some j =>
    rw [stag_some X W c d o j]
    unfold gather
    dsimp only
    iintro ⟨#Hctx, HO, Hr, Hs, Hc⟩ Hk
    iapply (wp_copyWait X W c d o j _ T hT) $$ [HO Hs]
    · isplitr; · iexact Hctx
      isplitl [Hs]; · iexact Hs
      iexact HO
    iintro ⟨Hl, Ho, Hv, HO⟩
    iapply hs $$ [Hr Ho Hv Hc]
    · isplitl [Hr]; · iexact Hr
      isplitl [Ho Hv]
      · isplitl [Ho] <;> iassumption
      iexact Hc
    iintro ⟨Hr, Hs⟩
    iapply Hk
    isplitl [HO]; · iexact HO
    isplitl [Hr]; · iexact Hr
    isplitl [Hs]; · iexact Hs
    unfold landed
    iexact Hl

theorem chunks_next (d : Bool) (t : Fin 16) (h : 1 ≤ t.val) :
    iprop(donePart X W c d (doneSet (t.val + 1)) ∗ todoPart c d (todoSet (t.val + 1)) ∗ stag X W c d (os (t.val + 1)) (prevN (t.val + 1)) ∗ stag X W c d (os t.val) (some t))
      ⊢ chunks X W c d (t.val + 1) := by
  unfold chunks
  rw [os_next, prevN_next t h]

/-- Chunk `t` gathered. -/
theorem wp_chunk (d : Bool) (k : Fin 4) (t : Fin 16) (h : 1 ≤ t.val) (q : PosShare TreeShare) (Y : FVec F S256x4096 .bf16)
    (hY : OUT X W d c t = hi Y) (T : CellTallies nD τ sig ℕ) (hT : From 0 T) :
    iprop(ctx X W ∗ owing c T ∗ own c (rM d k) q Y ∗ chunks X W c d t.val)
      ⊢ iprop((iprop(owing c T ∗ own c (rM d k) q Y ∗ chunks X W c d (t.val + 1)) -∗ WP F c K Q)
        -∗ WP F c (gather c d (prevN t.val) k (os t.val) t K) Q) := by
  rw [chunks]
  iintro ⟨#Hctx, HO, Hr, Hd, Ht, Hs, Hs'⟩ Hk
  ihave Ht := (todo_take c d t) $$ Ht
  icases Ht with ⟨Hc, Ht⟩
  iapply (wp_gather X W c d (prevN t.val) k (os t.val) t q Y hY T hT) $$ [HO Hr Hs Hc]
  · isplitr; · iexact Hctx
    isplitl [HO]; · iexact HO
    isplitl [Hr]; · iexact Hr
    isplitl [Hs] <;> iassumption
  iintro ⟨HO, Hr, Hs, Hl⟩
  iapply Hk
  isplitl [HO]; · iexact HO
  isplitl [Hr]; · iexact Hr
  iapply (chunks_next X W c d t h)
  isplitl [Hd Hl]
  · iapply (done_landed X W c d t h)
    isplitl [Hd] <;> iassumption
  isplitl [Ht]; · iexact Ht
  isplitl [Hs'] <;> iassumption

/-! ## The all-gather -/

/-- Before message `g` of the all-gather, direction `d`: the chunk to be passed on is in the slot of message `g - 1`. -/
def AG (d : Bool) (g : ℕ) : sProp 𝕄 := iprop(Core (F := F) c d g ∗ own c (rM d (sl (g + 3))) fullShare (V X W d g c))

theorem sl_prev (t : ℕ) : sl (15 + t + 3) = sl (14 + t) := by rw [show 15 + t + 3 = 14 + t + 4 by omega, sl_add4]

theorem ag_split (d : Bool) (t : ℕ) : AG X W c d (15 + t) ⊢ iprop((Core c d (15 + t) ∗ own c (rM d (sl (14 + t))) fullShare.left (V X W d (15 + t) c))
    ∗ own c (rM d (sl (14 + t))) fullShare.right (V X W d (15 + t) c)) := by
  unfold AG
  rw [sl_prev]
  iintro ⟨Hc, Hr⟩
  ihave Hr := (owns_halves c _ fullShare _).1 $$ Hr
  icases Hr with ⟨Hl, Hr⟩
  isplitr [Hr]
  · isplitl [Hc]; · iexact Hc
    iexact Hl
  iexact Hr

theorem sendPay_ag (d : Bool) {t : ℕ} (ht : 1 ≤ t) : sendPay X W c d (15 + t) ⊢ own c (rM d (sl (14 + t))) fullShare.left (V X W d (15 + t) c) := by
  refine (sendPay_high X W c d (by omega)).trans ?_
  rw [show 15 + t - 1 = 14 + t by omega]

theorem ag_join (d : Bool) {t : ℕ} (ht : 1 ≤ t) :
    iprop(Aft (F := F) c d (15 + t) ∗ gift c d (15 + t + 1) ∗ own c (rM d (sl (14 + t))) fullShare.right (V X W d (15 + t) c) ∗ sendPay X W c d (15 + t)
      ∗ own c (rM d (sl (15 + t))) fullShare (V X W d (15 + t) (fr d c))) ⊢ AG X W c d (15 + (t + 1)) := by
  unfold AG
  rw [show 15 + (t + 1) = 15 + t + 1 by omega, V_ag (by omega : 15 ≤ 15 + t) c, show 15 + t + 1 + 3 = 15 + t + 4 by omega, sl_add4]
  iintro ⟨Ha, Hg, Hr, Hl, Hn⟩
  ihave Hl := (sendPay_ag X W c d ht) $$ Hl
  isplitl [Ha Hg Hr Hl]
  · iapply (aft_core c d (15 + t))
    isplitl [Ha]; · iexact Ha
    isplitl [Hg]; · iexact Hg
    rw [sl_prev]
    iapply (own_any c)
    iapply (owns_halves c _ fullShare _).2
    isplitl [Hl]
    · iexact Hl
    · iexact Hr
  iexact Hn

/-- What chunk `t` of the result holds is what message `15 + t` passes on. -/
theorem OUT_eq (d : Bool) (t : Fin 16) (h : 1 ≤ t.val) : OUT X W d c t = hi (V X W d (15 + t.val) c) := by
  unfold OUT
  rw [if_neg (by omega), show 15 + t.val = 14 + t.val + 1 by omega, V_ag (by omega : 15 ≤ 14 + t.val) c]

theorem wp_agIter (t : Fin 16) (h : 1 ≤ t.val) (h' : t.val ≤ 14) :
    iprop(ctx X W ∗ owing c (O c (15 + t.val)) ∗ (AG X W c false (15 + t.val) ∗ chunks X W c false t.val) ∗ (AG X W c true (15 + t.val) ∗ chunks X W c true t.val))
      ⊢ iprop((iprop(owing c (O c (15 + (t.val + 1))) ∗ (AG X W c false (15 + (t.val + 1)) ∗ chunks X W c false (t.val + 1))
            ∗ (AG X W c true (15 + (t.val + 1)) ∗ chunks X W c true (t.val + 1))) -∗ WP F c K Q)
          -∗ WP F c (agIter c t K) Q) := by
  unfold agIter agRecv
  rw [agPrev_eq t h]
  have hg : 15 + t.val < 30 := by omega
  have hT : From 0 (O c (15 + t.val + 1)) := From.mono (O_from c _) (Nat.zero_le _)
  have e : 15 + t.val - 1 = 14 + t.val := by omega
  iintro ⟨#Hctx, HO, ⟨HA, Hch⟩, ⟨GA, Gch⟩⟩ Hk
  ihave HA := (ag_split X W c false t.val) $$ HA
  ihave GA := (ag_split X W c true t.val) $$ GA
  icases HA with ⟨HA, Hr⟩
  icases GA with ⟨GA, Gr⟩
  iapply (wp_sends X W c hg (fun d => rM d (sl (14 + t.val))) (fun d => rExact d _) fullShare.left
    (fun d => by unfold sendPay; rw [if_neg (by omega), e])) $$ [HO HA GA]
  · isplitr; · iexact Hctx
    isplitl [HO]; · iexact HO
    isplitl [HA] <;> iassumption
  iintro ⟨HO, Hm, Gm⟩
  iapply (wp_chunk X W c false _ t h fullShare.right _ (OUT_eq X W c false t h) _ hT) $$ [HO Hr Hch]
  · isplitr; · iexact Hctx
    isplitl [HO]; · iexact HO
    isplitl [Hr] <;> iassumption
  iintro ⟨HO, Hr, Hch⟩
  iapply (wp_chunk X W c true _ t h fullShare.right _ (OUT_eq X W c true t h) _ hT) $$ [HO Gr Gch]
  · isplitr; · iexact Hctx
    isplitl [HO]; · iexact HO
    isplitl [Gr] <;> iassumption
  iintro ⟨HO, Gr, Gch⟩
  iapply (wp_waitsMid X W c false hg (rM false (sl (15 + t.val - 1))) (rM false (sl (15 + t.val - 1))) (rExact _ _) (rExact _ _) (rCredit false _)) $$ [HO Hm]
  · isplitr; · iexact Hctx
    isplitl [HO] <;> iassumption
  iintro ⟨HO, Ha, Hp, Hn, Gg⟩
  iapply (wp_waitsMid X W c true hg (rM true (sl (15 + t.val - 1))) (rM true (sl (15 + t.val - 1))) (rExact _ _) (rExact _ _) (rCredit true _)) $$ [HO Gm]
  · isplitr; · iexact Hctx
    isplitl [HO] <;> iassumption
  iintro ⟨HO, Ga, Gp, Gn, Hg⟩
  iapply Hk
  isplitl [HO]; · iexact HO
  isplitl [Ha Hg Hr Hp Hn Hch]
  · isplitr [Hch]
    · iapply (ag_join X W c false h)
      isplitl [Ha]; · iexact Ha
      isplitl [Hg]; · iexact Hg
      isplitl [Hr]; · iexact Hr
      isplitl [Hp] <;> iassumption
    iexact Hch
  · isplitr [Gch]
    · iapply (ag_join X W c true h)
      isplitl [Ga]; · iexact Ga
      isplitl [Gg]; · iexact Gg
      isplitl [Gr]; · iexact Gr
      isplitl [Gp] <;> iassumption
    iexact Gch

theorem wp_agFrom : ∀ (n : ℕ) (h : n ≤ 14),
    iprop(ctx X W ∗ owing c (O c (15 + (15 - n))) ∗ (AG X W c false (15 + (15 - n)) ∗ chunks X W c false (15 - n)) ∗ (AG X W c true (15 + (15 - n)) ∗ chunks X W c true (15 - n)))
      ⊢ iprop((iprop(owing c (O c (15 + 15)) ∗ (AG X W c false (15 + 15) ∗ chunks X W c false 15) ∗ (AG X W c true (15 + 15) ∗ chunks X W c true 15)) -∗ WP F c K Q)
          -∗ WP F c (agFrom c n h K) Q)
  | 0, _ => by
    unfold agFrom
    iintro ⟨-, H⟩ Hk
    iapply Hk $$ H
  | n + 1, h => by
    have ih := wp_agFrom n (by omega)
    have e : 15 - (n + 1) = 14 - n := by omega
    have e' : 15 - n = 14 - n + 1 := by omega
    rw [e'] at ih
    rw [e]
    unfold agFrom
    have hb : 1 ≤ 14 - n := by omega
    iintro ⟨#Hctx, H⟩ Hk
    iapply (wp_agIter X W c ⟨14 - n, Nat.lt_succ_of_le ((Nat.sub_le 14 n).trans (by decide))⟩ hb (Nat.sub_le 14 n)) $$ [H]
    · isplitr; · iexact Hctx
      iexact H
    iintro H
    iapply ih $$ [H]
    · isplitr; · iexact Hctx
      iexact H
    iexact Hk

/-! ## Around the loops -/

/-- What direction `d` of device `c` begins with. -/
def Init (d : Bool) : sProp 𝕄 :=
  iprop(dutyTok (ER (F := F)) (barC (nb (!d) c)) 0 d ∗ ownAny c (sM d)
    ∗ (ownAny c (rM d (sl 0)) ∗ ownAny c (rM d (sl 1)) ∗ ownAny c (rM d (sl 2)) ∗ ownAny c (rM d (sl 3)))
    ∗ (pos c d 0 ∗ pos c d 1 ∗ pos c d 2 ∗ pos c d 3) ∗ toks c d 0)

/-- … and ends with. -/
def Last (d : Bool) : sProp 𝕄 :=
  iprop(ownAny (F := F) c (sM d) ∗ (ownAny c (rM d (sl 0)) ∗ ownAny c (rM d (sl 1)) ∗ ownAny c (rM d (sl 2)) ∗ ownAny c (rM d (sl 3)))
    ∗ (pos c d 30 ∗ pos c d 31 ∗ pos c d 32 ∗ pos c d 33) ∗ (stag X W c d 0 none ∗ stag X W c d 1 none) ∗ donePart X W c d Finset.univ)

theorem wp_firstPart (xM : Memref sig .tc .vmem S4096x256 .bf16) (wM : Memref sig .tc .vmem S256x8192 .bf16) (d : Bool) :
    iprop(args X W c xM wM ∗ ownAny c (sM d))
      ⊢ iprop((iprop(args X W c xM wM ∗ own c (sM d) fullShare (A X W d 0 c)) -∗ WP F c K Q) -∗ WP F c (firstPart xM wM c d K) Q) := by
  unfold firstPart
  iintro ⟨Hx, ⟨%Y, Hs⟩⟩ Hk
  iapply (wp_loadXW X W c xM wM d 0) $$ Hx; iintro Hx
  iapply (wp_opLoadS c d _) $$ Hs; iintro Hs
  iapply (wp_opStoreS c d _ _) $$ Hs; iintro Hs
  iapply Hk
  isplitl [Hx]; · iexact Hx
  iexact Hs

theorem rs_intro (d : Bool) :
    iprop(perm (F := F) c d 0 ∗ own c (sM d) fullShare (A X W d 0 c) ∗ (ownAny c (rM d (sl 1)) ∗ ownAny c (rM d (sl 2)) ∗ ownAny c (rM d (sl 3)))
      ∗ (pos c d 0 ∗ pos c d 1 ∗ pos c d 2 ∗ pos c d 3) ∗ toks c d 0) ⊢ RS X W c d 0 := by
  unfold RS Core right
  rw [if_pos (by decide)]
  iintro ⟨Hp, Hs, ⟨H1, H2, H3⟩, ⟨G0, G1, G2, G3⟩, Ht⟩
  isplitl [Hs]; · iexact Hs
  isplitr [H3]
  · isplitl [Hp]; · iexact Hp
    isplitl [G0]; · iexact G0
    isplitl [G1]; · iexact G1
    isplitl [G2]; · iexact G2
    isplitl [G3]; · iexact G3
    isplitl [Ht]; · iexact Ht
    isplitl [H1]; · iexact H1
    iexact H2
  iexact H3

theorem wp_opening (xM : Memref sig .tc .vmem S4096x256 .bf16) (wM : Memref sig .tc .vmem S256x8192 .bf16) :
    iprop(ctx X W ∗ owing c (O₀ c) ∗ args X W c xM wM ∗ cred (tallyAt (barC c) 0 2) ∗ atPos (ER (F := F)) (barC c) 0 ∅ 0 ∗ Init c false ∗ Init c true)
      ⊢ iprop((iprop(owing c (O c 0) ∗ args X W c xM wM ∗ atPos (ER (F := F)) (barC c) 1 ∅ 0 ∗ RS X W c false 0 ∗ RS X W c true 0) -∗ WP F c K Q)
          -∗ WP F c (opening xM wM c K) Q) := by
  unfold opening Init O₀
  iintro ⟨#Hctx, HO, Hx, Hc, Hat, ⟨Hd, Hs, ⟨H0, H1, H2, H3⟩, Hp, Ht⟩, ⟨Gd, Gs, ⟨G0, G1, G2, G3⟩, Gp, Gt⟩⟩ Hk
  iapply (wp_opSignal X W c false (O c 0 + tallyAt (barC (nb false c)) 0 1)) $$ [HO Hd H0]
  · isplitr; · iexact Hctx
    isplitl [Hd]; · iexact Hd
    isplitl [H0]; · iexact H0
    iexact HO
  iintro HO
  iapply (wp_opSignal X W c true (O c 0)) $$ [HO Gd G0]
  · isplitr; · iexact Hctx
    isplitl [Gd]; · iexact Gd
    isplitl [G0]; · iexact G0
    iexact HO
  iintro HO
  iapply (wp_opBarrier X W c (O c 0) (O_from c 0)) $$ [HO Hc Hat]
  · isplitr; · iexact Hctx
    isplitl [Hc]; · iexact Hc
    isplitl [Hat] <;> iassumption
  iintro ⟨HO, Hat, Hq, Gq⟩
  iapply (wp_firstPart X W c xM wM false) $$ [Hx Hs]
  · isplitl [Hx] <;> iassumption
  iintro ⟨Hx, Hs⟩
  iapply (wp_firstPart X W c xM wM true) $$ [Hx Gs]
  · isplitl [Hx] <;> iassumption
  iintro ⟨Hx, Gs⟩
  iapply Hk
  isplitl [HO]; · iexact HO
  isplitl [Hx]; · iexact Hx
  isplitl [Hat]; · iexact Hat
  isplitl [Hq Hs H1 H2 H3 Hp Ht]
  · iapply (rs_intro X W c false)
    isplitl [Hq]; · iexact Hq
    isplitl [Hs]; · iexact Hs
    isplitl [H1 H2 H3]
    · isplitl [H1]; · iexact H1
      isplitl [H2] <;> iassumption
    isplitl [Hp] <;> iassumption
  · iapply (rs_intro X W c true)
    isplitl [Gq]; · iexact Gq
    isplitl [Gs]; · iexact Gs
    isplitl [G1 G2 G3]
    · isplitl [G1]; · iexact G1
      isplitl [G2] <;> iassumption
    isplitl [Gp] <;> iassumption

/-- The finished sum of direction `d`, between the loops: its value after SiLU staged for the result, and sent on rounded. -/
theorem wp_midDir (d : Bool) :
    iprop(own c (sM d) fullShare (A X W d 15 c) ∗ stag X W c d 0 none ∗ ownAny c (cM c d 0))
      ⊢ iprop((iprop(own c (sM d) fullShare (V X W d 15 c) ∗ stag X W c d 0 (some 0)) -∗ WP F c K Q) -∗ WP F c (midDir c d K) Q) := by
  unfold midDir
  rw [stag_none, stag_some, V_15, show OUT X W d c 0 = silu (A X W d 15 c) from rfl]
  iintro ⟨Hs, ⟨Ho, Hv⟩, Hc⟩ Hk
  iapply (wp_opLoadS c d _) $$ Hs; iintro Hs
  rw [uncastS_castS]
  iapply (wp_opLoadO c d 0) $$ Ho; iintro %v Ho
  iapply (wp_opStoreO c d 0 _) $$ Ho; iintro Ho
  iapply (wp_opLoadS c d _) $$ Hs; iintro Hs
  iapply (wp_opStoreS c d _ _) $$ Hs; iintro Hs
  iapply (wp_opCopy c d 0 0 _) $$ [Ho Hc Hv]
  · isplitl [Ho]; · iexact Ho
    isplitl [Hc] <;> iassumption
  iintro H
  iapply Hk
  isplitl [Hs]; · iexact Hs
  iexact H

theorem chunks_first (d : Bool) :
    iprop(todoPart (F := F) c d (Finset.univ.erase 0) ∗ stag X W c d 0 (some 0) ∗ stag X W c d 1 none) ⊢ chunks X W c d 1 := by
  unfold chunks donePart
  rw [show doneSet 1 = ∅ by decide, show todoSet 1 = Finset.univ.erase 0 by decide, bigSep_empty]
  iintro ⟨Ht, H0, H1⟩
  isplitr; · iempintro
  isplitl [Ht]; · iexact Ht
  isplitl [H0]
  · iexact H0
  · iexact H1

theorem chunks_last (d : Bool) : chunks X W c d ((15 : Fin 16).val + 1)
    ⊢ iprop(donePart X W c d (Finset.univ.filter fun i => i.val < 14) ∗ stag X W c d 1 (some 14) ∗ stag X W c d 0 (some 15)) := by
  show chunks X W c d 16 ⊢ _
  unfold chunks
  rw [show doneSet 16 = Finset.univ.filter fun i => i.val < 14 by decide]
  iintro ⟨Hd, -, H1, H0⟩
  isplitl [Hd]; · iexact Hd
  isplitl [H1]
  · iexact H1
  · iexact H0

theorem done_all (d : Bool) :
    iprop(donePart X W c d (Finset.univ.filter fun i => i.val < 14) ∗ own c (cM c d 14) fullShare (OUT X W d c 14) ∗ own c (cM c d 15) fullShare (OUT X W d c 15))
      ⊢ donePart X W c d Finset.univ := by
  unfold donePart
  rw [show (Finset.univ : Finset (Fin 16)) = insert 15 (insert 14 (Finset.univ.filter fun i => i.val < 14)) by decide,
    bigSep_insert (by decide), bigSep_insert (by decide)]
  show _ ⊢ iprop(_ ∗ _ ∗ _)
  iintro ⟨H, H14, H15⟩
  isplitl [H15]; · iexact H15
  isplitl [H14]; · iexact H14
  iexact H

theorem wp_mid :
    iprop((RS X W c false 15 ∗ (stag X W c false 0 none ∗ stag X W c false 1 none) ∗ todoPart c false Finset.univ)
        ∗ (RS X W c true 15 ∗ (stag X W c true 0 none ∗ stag X W c true 1 none) ∗ todoPart c true Finset.univ))
      ⊢ iprop((iprop(((Core c false 15 ∗ own c (sM false) fullShare (V X W false 15 c)) ∗ chunks X W c false 1 ∗ ownAny c (rM false (sl 18)))
          ∗ ((Core c true 15 ∗ own c (sM true) fullShare (V X W true 15 c)) ∗ chunks X W c true 1 ∗ ownAny c (rM true (sl 18)))) -∗ WP F c K Q)
        -∗ WP F c (mid c K) Q) := by
  unfold mid RS todoPart
  rw [show (Finset.univ : Finset (Fin 16)) = insert 0 (Finset.univ.erase 0) by decide, bigSep_insert (by decide), bigSep_insert (by decide)]
  show iprop((_ ∗ _ ∗ _ ∗ _) ∗ (_ ∗ _ ∗ _ ∗ _)) ⊢ _
  iintro ⟨⟨⟨Hs, Hc, Hr⟩, ⟨H0, H1⟩, Hd, Ht⟩, ⟨⟨Gs, Gc, Gr⟩, ⟨G0, G1⟩, Gd, Gt⟩⟩ Hk
  iapply (wp_midDir X W c false) $$ [Hs H0 Hd]
  · isplitl [Hs]; · iexact Hs
    isplitl [H0] <;> iassumption
  iintro ⟨Hs, H0⟩
  iapply (wp_midDir X W c true) $$ [Gs G0 Gd]
  · isplitl [Gs]; · iexact Gs
    isplitl [G0] <;> iassumption
  iintro ⟨Gs, G0⟩
  iapply Hk
  isplitl [Hc Hs Ht H0 H1 Hr]
  · isplitl [Hc Hs]
    · isplitl [Hc] <;> iassumption
    isplitl [Ht H0 H1]
    · iapply (chunks_first X W c false)
      unfold todoPart
      isplitl [Ht]; · iexact Ht
      isplitl [H0] <;> iassumption
    iexact Hr
  · isplitl [Gc Gs]
    · isplitl [Gc] <;> iassumption
    isplitl [Gt G0 G1]
    · iapply (chunks_first X W c true)
      unfold todoPart
      isplitl [Gt]; · iexact Gt
      isplitl [G0] <;> iassumption
    iexact Gr

theorem ag_start (d : Bool) :
    iprop(Aft (F := F) c d 15 ∗ gift c d 16 ∗ ownAny c (rM d (sl 18)) ∗ own c (rM d (sl 15)) fullShare (V X W d 15 (fr d c))) ⊢ AG X W c d (15 + 1) := by
  unfold AG
  rw [V_ag (le_refl 15) c, show (15 + 1 + 3 : ℕ) = 15 + 4 from rfl, sl_add4]
  iintro ⟨Ha, Hg, Hr, Hn⟩
  isplitl [Ha Hg Hr]
  · iapply (aft_core c d 15)
    isplitl [Ha]; · iexact Ha
    isplitl [Hg]; · iexact Hg
    iexact Hr
  iexact Hn

theorem wp_agFirst :
    iprop(ctx X W ∗ owing c (O c 15) ∗ ((Core c false 15 ∗ own c (sM false) fullShare (V X W false 15 c)) ∗ ownAny c (rM false (sl 18)))
        ∗ ((Core c true 15 ∗ own c (sM true) fullShare (V X W true 15 c)) ∗ ownAny c (rM true (sl 18))))
      ⊢ iprop((iprop(owing c (O c (15 + 1)) ∗ (AG X W c false (15 + 1) ∗ ownAny c (sM false)) ∗ (AG X W c true (15 + 1) ∗ ownAny c (sM true))) -∗ WP F c K Q)
        -∗ WP F c (agFirst c K) Q) := by
  unfold agFirst
  iintro ⟨#Hctx, HO, ⟨HA, Hr⟩, ⟨GA, Gr⟩⟩ Hk
  iapply (wp_sends X W c (by decide : 15 < 30) sM sExact fullShare
    (fun d => by unfold sendPay; rw [if_pos (by decide)])) $$ [HO HA GA]
  · isplitr; · iexact Hctx
    isplitl [HO]; · iexact HO
    isplitl [HA] <;> iassumption
  iintro ⟨HO, Hm, Gm⟩
  iapply (wp_waitsMid X W c false (by decide : 15 < 30) (sM false) (sM false) (sExact _) (sExact _) (sCredit false)) $$ [HO Hm]
  · isplitr; · iexact Hctx
    isplitl [HO] <;> iassumption
  iintro ⟨HO, Ha, Hp, Hn, Gg⟩
  iapply (wp_waitsMid X W c true (by decide : 15 < 30) (sM true) (sM true) (sExact _) (sExact _) (sCredit true)) $$ [HO Gm]
  · isplitr; · iexact Hctx
    isplitl [HO] <;> iassumption
  iintro ⟨HO, Ga, Gp, Gn, Hg⟩
  ihave Hp := (sendPay_low X W c false (le_refl 15)) $$ Hp
  ihave Gp := (sendPay_low X W c true (le_refl 15)) $$ Gp
  iapply Hk
  isplitl [HO]; · iexact HO
  isplitl [Ha Hg Hr Hn Hp]
  · isplitr [Hp]
    · iapply (ag_start X W c false)
      isplitl [Ha]; · iexact Ha
      isplitl [Hg]; · iexact Hg
      isplitl [Hr] <;> iassumption
    iapply (own_any c); iexact Hp
  · isplitr [Gp]
    · iapply (ag_start X W c true)
      isplitl [Ga]; · iexact Ga
      isplitl [Gg]; · iexact Gg
      isplitl [Gr] <;> iassumption
    iapply (own_any c); iexact Gp

theorem last_intro (d : Bool) :
    iprop(AG X W c d (15 + 15) ∗ ownAny c (sM d) ∗ stag X W c d 0 none ∗ stag X W c d 1 none ∗ donePart X W c d Finset.univ) ⊢ Last X W c d := by
  unfold AG Core right Last
  rw [if_neg (by decide)]
  iintro ⟨⟨⟨H0, P0, P1, P2, P3, -, H1, H2⟩, H3⟩, Hs, S0, S1, Hd⟩
  isplitl [Hs]; · iexact Hs
  isplitl [H0 H1 H2 H3]
  · ihave H3 := (own_any c _ _) $$ H3
    isplitl [H2]; · iexact H2
    isplitl [H3]; · iexact H3
    isplitl [H0]; · iexact H0
    iexact H1
  isplitl [P0 P1 P2 P3]
  · isplitl [P0]; · iexact P0
    isplitl [P1]; · iexact P1
    isplitl [P2] <;> iassumption
  isplitl [S0 S1]
  · isplitl [S0] <;> iassumption
  iexact Hd

theorem wp_epilogue :
    iprop(ctx X W ∗ owing c (O c (15 + 15)) ∗ ((AG X W c false (15 + 15) ∗ chunks X W c false 15) ∗ ownAny c (sM false))
        ∗ ((AG X W c true (15 + 15) ∗ chunks X W c true 15) ∗ ownAny c (sM true)))
      ⊢ iprop((iprop(owing c (O c 30) ∗ Last X W c false ∗ Last X W c true) -∗ WP F c K Q) -∗ WP F c (epilogue c K) Q) := by
  unfold epilogue
  have hT : From 0 (O c 30) := From.mono (O_from c _) (Nat.zero_le _)
  have h15 := fun (d : Bool) (K : PG F) => wp_chunk X W c (Q := Q) (K := K) d (sl 29) 15 (by decide) fullShare (V X W d 30 c) (OUT_eq X W c d 15 (by decide)) _ hT
  rw [AG, AG]
  iintro ⟨#Hctx, HO, ⟨⟨⟨Hco, Hr⟩, Hch⟩, Hs⟩, ⟨⟨⟨Gco, Gr⟩, Gch⟩, Gs⟩⟩ Hk
  iapply (h15 false _) $$ [HO Hr Hch]
  · isplitr; · iexact Hctx
    isplitl [HO]; · iexact HO
    isplitl [Hr]; · iexact Hr
    iexact Hch
  iintro ⟨HO, Hr, Hch⟩
  iapply (h15 true _) $$ [HO Gr Gch]
  · isplitr; · iexact Hctx
    isplitl [HO]; · iexact HO
    isplitl [Gr]; · iexact Gr
    iexact Gch
  iintro ⟨HO, Gr, Gch⟩
  ihave Hch := (chunks_last X W c false) $$ Hch
  ihave Gch := (chunks_last X W c true) $$ Gch
  icases Hch with ⟨Hd, H1, H0⟩
  icases Gch with ⟨Gd, G1, G0⟩
  ihave H1 := (Entails.of_eq (stag_some X W c false 1 14)) $$ H1
  ihave H0 := (Entails.of_eq (stag_some X W c false 0 15)) $$ H0
  ihave G1 := (Entails.of_eq (stag_some X W c true 1 14)) $$ G1
  ihave G0 := (Entails.of_eq (stag_some X W c true 0 15)) $$ G0
  iapply (wp_copyWait X W c false 1 14 _ _ hT) $$ [HO H1]
  · isplitr; · iexact Hctx
    isplitl [H1] <;> iassumption
  iintro ⟨H14, Ho1, Hv1, HO⟩
  iapply (wp_copyWait X W c true 1 14 _ _ hT) $$ [HO G1]
  · isplitr; · iexact Hctx
    isplitl [G1] <;> iassumption
  iintro ⟨G14, Go1, Gv1, HO⟩
  iapply (wp_copyWait X W c false 0 15 _ _ hT) $$ [HO H0]
  · isplitr; · iexact Hctx
    isplitl [H0] <;> iassumption
  iintro ⟨H15, Ho0, Hv0, HO⟩
  iapply (wp_copyWait X W c true 0 15 _ _ hT) $$ [HO G0]
  · isplitr; · iexact Hctx
    isplitl [G0] <;> iassumption
  iintro ⟨G15, Go0, Gv0, HO⟩
  iapply Hk
  isplitl [HO]; · iexact HO
  isplitl [Hco Hr Hd Hs H14 H15 Ho0 Ho1 Hv0 Hv1]
  · iapply (last_intro X W c false)
    unfold AG
    isplitl [Hco Hr]
    · isplitl [Hco]; · iexact Hco
      iexact Hr
    isplitl [Hs]; · iexact Hs
    isplitl [Ho0 Hv0]
    · unfold stag
      isplitl [Ho0] <;> iassumption
    isplitl [Ho1 Hv1]
    · unfold stag
      isplitl [Ho1] <;> iassumption
    iapply (done_all X W c false)
    isplitl [Hd]; · iexact Hd
    isplitl [H14] <;> iassumption
  · iapply (last_intro X W c true)
    unfold AG
    isplitl [Gco Gr]
    · isplitl [Gco]; · iexact Gco
      iexact Gr
    isplitl [Gs]; · iexact Gs
    isplitl [Go0 Gv0]
    · unfold stag
      isplitl [Go0] <;> iassumption
    isplitl [Go1 Gv1]
    · unfold stag
      isplitl [Go1] <;> iassumption
    iapply (done_all X W c true)
    isplitl [Gd]; · iexact Gd
    isplitl [G14] <;> iassumption

/-- What direction `d` needs of the result and its staging slots at the start. -/
def Blank (d : Bool) : sProp 𝕄 := iprop((stag X W c d 0 none ∗ stag X W c d 1 none) ∗ todoPart c d Finset.univ)

/-- The whole program of device `c`: every chunk of the result ends at `OUT`. -/
theorem wp_prog (xM : Memref sig .tc .vmem S4096x256 .bf16) (wM : Memref sig .tc .vmem S256x8192 .bf16) :
    iprop(ctx X W ∗ owing c (O₀ c) ∗ args X W c xM wM ∗ cred (tallyAt (barC c) 0 2) ∗ atPos (ER (F := F)) (barC c) 0 ∅ 0
        ∗ (Init c false ∗ Blank X W c false) ∗ (Init c true ∗ Blank X W c true))
      ⊢ iprop((iprop(owing c (O c 30) ∗ args X W c xM wM ∗ atPos (ER (F := F)) (barC c) 1 ∅ 0 ∗ Last X W c false ∗ Last X W c true) -∗ WP F c (.ret ⟨⟩) Q)
          -∗ WP F c (prog xM wM c) Q) := by
  unfold prog Blank
  iintro ⟨#Hctx, HO, Hx, Hc, Hat, ⟨HI, HB⟩, ⟨GI, GB⟩⟩ Hk
  iapply (wp_opening X W c xM wM) $$ [HO Hx Hc Hat HI GI]
  · isplitr; · iexact Hctx
    isplitl [HO]; · iexact HO
    isplitl [Hx]; · iexact Hx
    isplitl [Hc]; · iexact Hc
    isplitl [Hat]; · iexact Hat
    isplitl [HI] <;> iassumption
  iintro ⟨HO, Hx, Hat, HR, GR⟩
  iapply (wp_rsFrom X W c xM wM 15 le_rfl) $$ [HO Hx HR GR]
  · isplitr; · iexact Hctx
    isplitl [HO]; · iexact HO
    isplitl [Hx]; · iexact Hx
    isplitl [HR]; · iexact HR
    iexact GR
  iintro ⟨HO, Hx, HR, GR⟩
  iapply (wp_mid X W c) $$ [HR HB GR GB]
  · isplitl [HR HB]
    · isplitl [HR] <;> iassumption
    · isplitl [GR] <;> iassumption
  iintro ⟨⟨HA, Hch, Hr⟩, ⟨GA, Gch, Gr⟩⟩
  iapply (wp_agFirst X W c) $$ [HO HA Hr GA Gr]
  · isplitr; · iexact Hctx
    isplitl [HO]; · iexact HO
    isplitl [HA Hr]
    · isplitl [HA] <;> iassumption
    · isplitl [GA] <;> iassumption
  iintro ⟨HO, ⟨HA, Hs⟩, ⟨GA, Gs⟩⟩
  iapply (wp_agFrom X W c 14 le_rfl) $$ [HO HA GA Hch Gch]
  · isplitr; · iexact Hctx
    isplitl [HO]; · iexact HO
    isplitl [HA Hch]
    · isplitl [HA]; · iexact HA
      iexact Hch
    · isplitl [GA]; · iexact GA
      iexact Gch
  iintro ⟨HO, HA, GA⟩
  iapply (wp_epilogue X W c) $$ [HO HA GA Hs Gs]
  · isplitr; · iexact Hctx
    isplitl [HO]; · iexact HO
    isplitl [HA Hs]
    · isplitl [HA] <;> iassumption
    · isplitl [GA] <;> iassumption
  iintro ⟨HO, HL, GL⟩
  iapply Hk
  isplitl [HO]; · iexact HO
  isplitl [Hx]; · iexact Hx
  isplitl [Hat]; · iexact Hat
  isplitl [HL] <;> iassumption

end Gather

end Cert.KProof

end
-- ==== Proof.Buffers.lean ====
/-
The buffers cut into the slots and chunks the program works on, and put together again.
-/
module

public import proofs.«01_k».proof.Proof.Gather

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Any buffer cut along a family of rectangles -/

/-- Every element type has a value. -/
instance elt_nonempty : ∀ e : EltTy, Nonempty (Elt F e)
  | .i1 => ⟨(0 : BitVec 1)⟩ | .i4 => ⟨(0 : BitVec 4)⟩ | .i8 => ⟨(0 : BitVec 8)⟩ | .i16 => ⟨(0 : BitVec 16)⟩ | .i32 => ⟨(0 : BitVec 32)⟩ | .i64 => ⟨(0 : BitVec 64)⟩
  | .fp8e4m3 => ⟨(FloatOps.ofBits .fp8e4m3 0 : F .fp8e4m3)⟩ | .fp8e5m2 => ⟨(FloatOps.ofBits .fp8e5m2 0 : F .fp8e5m2)⟩
  | .bf16 => ⟨(FloatOps.ofBits .bf16 0 : F .bf16)⟩ | .f16 => ⟨(FloatOps.ofBits .f16 0 : F .f16)⟩ | .f32 => ⟨(FloatOps.ofBits .f32 0 : F .f32)⟩

section Cut
variable (c : Dev nD) {cs : Space} {sh s' : Shape} {e : EltTy} (m : Memref sig .tc cs sh e) {T : Type} [Fintype T] [DecidableEq T] (r : T → Rect sh)
  (hr : ∀ t a, (r t).stride a = 1) (hsq : ∀ t, (r t).shape.Squeezes s')
  (hd : ∀ t t', t ≠ t' → Disjoint (r t).set (r t').set) (hcov : (Finset.univ : Finset T).biUnion (fun t => (r t).set) = Finset.univ)

include hcov in
theorem cut_set : (Finset.univ : Finset T).biUnion (fun t => (m.view.slice (r t)).set) = m.view.set := by
  ext i
  rw [Finset.mem_biUnion]
  constructor
  · rintro ⟨t, -, hi⟩
    exact View.set_slice_subset _ _ hi
  · intro hi
    rw [View.set, Finset.mem_map] at hi
    obtain ⟨x, -, rfl⟩ := hi
    obtain ⟨t, -, hx⟩ := Finset.mem_biUnion.mp (hcov.symm ▸ Finset.mem_univ x)
    exact ⟨t, Finset.mem_univ _, by rw [View.set_slice]; exact Finset.mem_map_of_mem _ hx⟩

include hd in
theorem cut_disjoint (t t' : T) (h : t ≠ t') : Disjoint (m.view.slice (r t)).set (m.view.slice (r t')).set := by
  rw [View.set_slice, View.set_slice]; exact (Finset.disjoint_map _).mpr (hd t t' h)

/-- A slice held at some contents, with its leading axes dropped or not. -/
theorem any_slice (t : T) : (ownAny (F := F) c ((m.slice (r t) (hr t)).squeeze s' (hsq t)))
    = iprop(∃ f, m.view.loc (c : Thread nD τ) ↦[(m.view.slice (r t)).set]{fullShare} f) := by
  have h1 : (ownAny (F := F) c ((m.slice (r t) (hr t)).squeeze s' (hsq t)))
      ⊢ iprop(∃ f, m.view.loc (c : Thread nD τ) ↦[(m.view.slice (r t)).set]{fullShare} f) := by
    unfold ownAny own owns
    simp only [Memref.view_squeeze, View.set_reshape]
    iintro ⟨%Y, %f, -, H⟩
    iexists f; iexact H
  have h2 : iprop(∃ f, m.view.loc (c : Thread nD τ) ↦[(m.view.slice (r t)).set]{fullShare} f)
      ⊢ (ownAny (F := F) c ((m.slice (r t) (hr t)).squeeze s' (hsq t))) := by
    unfold ownAny own owns
    simp only [Memref.view_squeeze, View.set_reshape]
    iintro ⟨%f, H⟩
    iexists _; iexists f
    isplitr; · ipureintro; rfl
    iexact H
  exact BI.equiv_iff.mp ⟨h1, h2⟩

include hd hcov in
theorem cut (X : sh.Idx → Elt F e) : own c m fullShare X ⊢ bigSep Finset.univ fun t => ownAny c ((m.slice (r t) (hr t)).squeeze s' (hsq t)) := by
  rw [bigSep_congr fun t _ => any_slice c m r hr hsq t]
  have h1 (g : m.view.ty.Contents (Elt F)) : (m.view.loc (c : Thread nD τ) ↦[m.view.set]{fullShare} g : sProp 𝕄)
      ⊢ bigSep Finset.univ fun t => iprop(∃ f, m.view.loc (c : Thread nD τ) ↦[(m.view.slice (r t)).set]{fullShare} f) := by
    rw [Ring.pointsTo_sub_blocks (ℓ := m.view.loc (c : Thread nD τ)) (fun t => (m.view.slice (r t)).set) (fun t t' h => cut_disjoint m r hd t t' h) m.view.set (cut_set m r hcov) g]
    exact bigSep_mono fun t _ => by
      show iprop(m.view.loc (c : Thread nD τ) ↦[(m.view.slice (r t)).set]{fullShare} g) ⊢ iprop(∃ f, m.view.loc (c : Thread nD τ) ↦[(m.view.slice (r t)).set]{fullShare} f)
      iintro H; iexists g; iexact H
  unfold own owns
  iintro ⟨%g, -, H⟩
  iapply (h1 g); iexact H

include hd hcov in
theorem uncut : (bigSep Finset.univ fun t => ownAny (F := F) c ((m.slice (r t) (hr t)).squeeze s' (hsq t))) ⊢ ownAny c m := by
  rw [bigSep_congr fun t _ => any_slice c m r hr hsq t]
  have h1 := Ring.pointsTo_sub_blocks_join_exists (Ix := ℕ) (Name := ℕ) (U := UU) (Lvl := ℕ) (q := fullShare) (ℓ := m.view.loc (c : Thread nD τ)) (fun t => (m.view.slice (r t)).set) (fun t t' h => cut_disjoint m r hd t t' h)
    m.view.set (cut_set m r hcov) (fun _ => Classical.choice (elt_nonempty (F := F) _))
  refine h1.trans ?_
  unfold ownAny own owns
  iintro ⟨%g, H⟩
  iexists _; iexists g
  isplitr; · ipureintro; rfl
  iexact H

include hd in
/-- Contents given on each rectangle of a disjoint family are those of one array. -/
theorem glue {A : Type} [Nonempty A] (G : ∀ t, (r t).shape.Idx → A) : ∃ X : sh.Idx → A, ∀ t j, X ((r t).emb j) = G t j := by
  classical
  refine ⟨fun i => if h : ∃ p : (Σ t, (r t).shape.Idx), (r p.1).emb p.2 = i then G h.choose.1 h.choose.2 else Classical.arbitrary A, fun t j => ?_⟩
  have h : ∃ p : (Σ t, (r t).shape.Idx), (r p.1).emb p.2 = (r t).emb j := ⟨⟨t, j⟩, rfl⟩
  dsimp only
  rw [dif_pos h]
  have hs := h.choose_spec
  revert hs
  generalize h.choose = p
  obtain ⟨t', j'⟩ := p
  intro hs
  dsimp only at hs ⊢
  have ht : t' = t := by
    by_contra hne
    have hm : (r t').emb j' ∈ (r t').set := (r _).idx_mem _
    have hm' : (r t').emb j' ∈ (r t).set := hs ▸ (r _).idx_mem _
    exact Finset.disjoint_left.mp (hd t' t hne) hm hm'
  subst ht
  rw [(r t').emb.injective hs]

include hd hcov in
/-- Slices held at given contents join to the whole held at contents that agree with each. -/
theorem join (G : ∀ t, (r t).shape.Idx → Elt F e) :
    (bigSep Finset.univ fun t => own c (m.slice (r t) (hr t)) fullShare (G t))
      ⊢ iprop(∃ X : sh.Idx → Elt F e, ⌜∀ t j, X ((r t).emb j) = G t j⌝ ∗ own c m fullShare X) := by
  obtain ⟨X, hX⟩ := glue r hd G
  iintro H
  iexists X
  isplitr; · ipureintro; exact hX
  iapply (owns_of_rects (c : Thread nD τ) m fullShare r hr hd hcov X)
  iapply (Entails.of_eq (bigSep_congr fun t _ => by rw [show (fun j => X ((r t).emb j)) = G t from funext fun j => hX t j]))
  iexact H

end Cut

/-! ## The rectangles -/

theorem mem_sRect (d : Bool) (i : S2x256x4096.Idx) : i ∈ (sRect d).set ↔ (i 0).val = dn d := by
  rw [Rect.mem_set_unit]
  constructor
  · intro h; have := h 0; simp only [Matrix.cons_val_zero] at this; have e : S1x256x4096.size 0 = 1 := rfl; omega
  · intro h a
    fin_cases a
    · show dn d ≤ (i 0).val ∧ (i 0).val < dn d + 1; omega
    · have := (i 1).isLt; show 0 ≤ (i 1).val ∧ (i 1).val < 0 + 256; exact ⟨Nat.zero_le _, by rw [Nat.zero_add]; exact this⟩
    · have := (i 2).isLt; show 0 ≤ (i 2).val ∧ (i 2).val < 0 + 4096; exact ⟨Nat.zero_le _, by rw [Nat.zero_add]; exact this⟩

theorem mem_rRect (d : Bool) (k : Fin 4) (i : S2x4x256x4096.Idx) : i ∈ (rRect d k).set ↔ (i 0).val = dn d ∧ (i 1).val = k.val := by
  rw [Rect.mem_set_unit]
  constructor
  · intro h
    have h0 : dn d ≤ (i 0).val ∧ (i 0).val < dn d + 1 := h 0
    have h1 : k.val ≤ (i 1).val ∧ (i 1).val < k.val + 1 := h 1
    omega
  · intro h a
    fin_cases a
    · show dn d ≤ (i 0).val ∧ (i 0).val < dn d + 1; omega
    · show k.val ≤ (i 1).val ∧ (i 1).val < k.val + 1; omega
    · have := (i 2).isLt; show 0 ≤ (i 2).val ∧ (i 2).val < 0 + 256; exact ⟨Nat.zero_le _, by rw [Nat.zero_add]; exact this⟩
    · have := (i 3).isLt; show 0 ≤ (i 3).val ∧ (i 3).val < 0 + 4096; exact ⟨Nat.zero_le _, by rw [Nat.zero_add]; exact this⟩

theorem mem_oRect (d : Bool) (k : Fin 2) (i : S2x2x256x4096.Idx) : i ∈ (oRect d k).set ↔ (i 0).val = dn d ∧ (i 1).val = k.val := by
  rw [Rect.mem_set_unit]
  constructor
  · intro h
    have h0 : dn d ≤ (i 0).val ∧ (i 0).val < dn d + 1 := h 0
    have h1 : k.val ≤ (i 1).val ∧ (i 1).val < k.val + 1 := h 1
    omega
  · intro h a
    fin_cases a
    · show dn d ≤ (i 0).val ∧ (i 0).val < dn d + 1; omega
    · show k.val ≤ (i 1).val ∧ (i 1).val < k.val + 1; omega
    · have := (i 2).isLt; show 0 ≤ (i 2).val ∧ (i 2).val < 0 + 256; exact ⟨Nat.zero_le _, by rw [Nat.zero_add]; exact this⟩
    · have := (i 3).isLt; show 0 ≤ (i 3).val ∧ (i 3).val < 0 + 4096; exact ⟨Nat.zero_le _, by rw [Nat.zero_add]; exact this⟩

/-- The block of rows that chunk `i` of direction `d` is. -/
def cRow (c : Dev nD) (d : Bool) (i : Fin 16) : ℕ := if d then (c.val + 15 + i.val) % 16 else (c.val + 17 - i.val) % 16

theorem cOff_eq (c : Dev nD) (d : Bool) (i : Fin 16) : cOff c d i = ![256 * cRow c d i, 4096 * dn d] := by
  cases d <;> refine Fin.cases ?_ (fun t => ?_) i
  · refine (k0_off4_eq c).trans ?_
    unfold cRow dn
    rw [show c.val + 17 - (0 : Fin 16).val = c.val + 1 + 16 from rfl, Nat.add_mod_right]; rfl
  · refine (k0_off6_eq c t).trans ?_
    unfold cRow dn
    rw [show c.val + 17 - t.succ.val = c.val + 16 - t.val by rw [Fin.val_succ]; omega]; rfl
  · refine (k0_off5_eq c).trans ?_
    unfold cRow dn
    rw [if_pos rfl, if_pos rfl]; rfl
  · refine (k0_off7_eq c t).trans ?_
    unfold cRow dn
    rw [if_pos rfl, if_pos rfl, show (c.val + 15 + t.succ.val) % 16 = (c.val + t.val) % 16 by rw [Fin.val_succ]; omega]

theorem cRow_lt (c : Dev nD) (d : Bool) (i : Fin 16) : cRow c d i < 16 := by unfold cRow; split <;> exact Nat.mod_lt _ (by decide)

theorem mem_cRect (c : Dev nD) (d : Bool) (i : Fin 16) (j : S4096x8192.Idx) :
    j ∈ (cRect c d i).set ↔ (j 0).val / 256 = cRow c d i ∧ (j 1).val / 4096 = dn d := by
  rw [Rect.mem_set_unit, cOff_eq]
  have h1 := (j 1).isLt
  constructor
  · intro h
    have h0 : 256 * cRow c d i ≤ (j 0).val ∧ (j 0).val < 256 * cRow c d i + 256 := h 0
    have h1 : 4096 * dn d ≤ (j 1).val ∧ (j 1).val < 4096 * dn d + 4096 := h 1
    omega
  · intro h a
    fin_cases a
    · show 256 * cRow c d i ≤ (j 0).val ∧ (j 0).val < 256 * cRow c d i + 256; omega
    · show 4096 * dn d ≤ (j 1).val ∧ (j 1).val < 4096 * dn d + 4096; omega

theorem dn_inj {d d' : Bool} (h : dn d = dn d') : d = d' := by revert h; cases d <;> cases d' <;> decide
theorem dn_surj {n : ℕ} (h : n < 2) : ∃ d, dn d = n := by
  rcases (by omega : n = 0 ∨ n = 1) with h | h
  · exact ⟨false, h.symm⟩
  · exact ⟨true, h.symm⟩
theorem cRow_inj (c : Dev nD) (d : Bool) {i i' : Fin 16} (h : cRow c d i = cRow c d i') : i = i' := by
  have hc : c.val < 16 := c.isLt
  cases d
  · have h : (c.val + 17 - i.val) % 16 = (c.val + 17 - i'.val) % 16 := h
    exact Fin.ext (by omega)
  · have h : (c.val + 15 + i.val) % 16 = (c.val + 15 + i'.val) % 16 := h
    exact Fin.ext (by omega)
theorem cRow_surj (c : Dev nD) (d : Bool) {n : ℕ} (h : n < 16) : ∃ i, cRow c d i = n := by
  have hf : Function.Surjective (fun i : Fin 16 => (⟨cRow c d i, cRow_lt c d i⟩ : Fin 16)) :=
    Finite.surjective_of_injective fun i i' h => cRow_inj c d (Fin.mk.inj h)
  obtain ⟨i, hi⟩ := hf ⟨n, h⟩
  exact ⟨i, congrArg Fin.val hi⟩

theorem s_disjoint (d d' : Bool) (h : d ≠ d') : Disjoint (sRect d).set (sRect d').set := by
  rw [Finset.disjoint_left]; intro i hi hi'
  rw [mem_sRect] at hi hi'
  exact h (dn_inj (hi.symm.trans hi'))
theorem s_cover : (Finset.univ : Finset Bool).biUnion (fun d => (sRect d).set) = Finset.univ := by
  refine Finset.eq_univ_iff_forall.mpr fun i => ?_
  obtain ⟨d, hd⟩ := dn_surj (show (i 0).val < 2 from (i 0).isLt)
  exact Finset.mem_biUnion.mpr ⟨d, Finset.mem_univ _, (mem_sRect d i).mpr hd.symm⟩
theorem r_disjoint (p p' : Bool × Fin 4) (h : p ≠ p') : Disjoint (rRect p.1 p.2).set (rRect p'.1 p'.2).set := by
  rw [Finset.disjoint_left]; intro i hi hi'
  rw [mem_rRect] at hi hi'
  exact h (Prod.ext (dn_inj (hi.1.symm.trans hi'.1)) (Fin.ext (hi.2.symm.trans hi'.2)))
theorem r_cover : (Finset.univ : Finset (Bool × Fin 4)).biUnion (fun p => (rRect p.1 p.2).set) = Finset.univ := by
  refine Finset.eq_univ_iff_forall.mpr fun i => ?_
  obtain ⟨d, hd⟩ := dn_surj (show (i 0).val < 2 from (i 0).isLt)
  exact Finset.mem_biUnion.mpr ⟨(d, i 1), Finset.mem_univ _, (mem_rRect d (i 1) i).mpr ⟨hd.symm, rfl⟩⟩
theorem o_disjoint (p p' : Bool × Fin 2) (h : p ≠ p') : Disjoint (oRect p.1 p.2).set (oRect p'.1 p'.2).set := by
  rw [Finset.disjoint_left]; intro i hi hi'
  rw [mem_oRect] at hi hi'
  exact h (Prod.ext (dn_inj (hi.1.symm.trans hi'.1)) (Fin.ext (hi.2.symm.trans hi'.2)))
theorem o_cover : (Finset.univ : Finset (Bool × Fin 2)).biUnion (fun p => (oRect p.1 p.2).set) = Finset.univ := by
  refine Finset.eq_univ_iff_forall.mpr fun i => ?_
  obtain ⟨d, hd⟩ := dn_surj (show (i 0).val < 2 from (i 0).isLt)
  exact Finset.mem_biUnion.mpr ⟨(d, i 1), Finset.mem_univ _, (mem_oRect d (i 1) i).mpr ⟨hd.symm, rfl⟩⟩
theorem c_disjoint (c : Dev nD) (p p' : Bool × Fin 16) (h : p ≠ p') : Disjoint (cRect c p.1 p.2).set (cRect c p'.1 p'.2).set := by
  rw [Finset.disjoint_left]; intro i hi hi'
  rw [mem_cRect] at hi hi'
  obtain ⟨d, k⟩ := p
  obtain ⟨d', k'⟩ := p'
  obtain rfl : d = d' := dn_inj (hi.2.symm.trans hi'.2)
  obtain rfl : k = k' := cRow_inj c d (hi.1.symm.trans hi'.1)
  exact h rfl
theorem c_cover (c : Dev nD) : (Finset.univ : Finset (Bool × Fin 16)).biUnion (fun p => (cRect c p.1 p.2).set) = Finset.univ := by
  refine Finset.eq_univ_iff_forall.mpr fun i => ?_
  have h0 : (i 0).val < 4096 := (i 0).isLt
  have h1 : (i 1).val < 8192 := (i 1).isLt
  obtain ⟨d, hd⟩ := dn_surj (show (i 1).val / 4096 < 2 by omega)
  obtain ⟨k, hk⟩ := cRow_surj c d (show (i 0).val / 256 < 16 by omega)
  exact Finset.mem_biUnion.mpr ⟨(d, k), Finset.mem_univ _, (mem_cRect c d k i).mpr ⟨hk.symm, hd.symm⟩⟩

/-! ## The buffers of the kernel -/

section Kernel
variable (c : Dev nD)

theorem bigSep_bool (Φ : Bool → sProp 𝕄) : bigSep Finset.univ Φ = iprop(Φ false ∗ Φ true) := bigSep_univ_eq_bigSepL [false, true] (by decide) (by decide) Φ
theorem bigSep_two (Φ : Fin 2 → sProp 𝕄) : bigSep Finset.univ Φ = iprop(Φ 0 ∗ Φ 1) := bigSep_univ_eq_bigSepL [0, 1] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

theorem s_cut (X) : own (F := F) c sB fullShare X ⊢ iprop(ownAny c (sM false) ∗ ownAny c (sM true)) := by
  refine (cut c sB sRect (fun _ _ => rfl) (fun _ => squeezes_S1x256x4096_S256x4096) s_disjoint s_cover X).trans ?_
  rw [bigSep_bool]; exact .rfl
theorem s_join : iprop(ownAny (F := F) c (sM false) ∗ ownAny c (sM true)) ⊢ ownAny c sB := by
  refine BIBase.Entails.trans ?_ (uncut c sB sRect (fun _ _ => rfl) (fun _ => squeezes_S1x256x4096_S256x4096) s_disjoint s_cover)
  rw [bigSep_bool]; exact .rfl

/-- The four slots of direction `d`. -/
def slots (d : Bool) : sProp 𝕄 := iprop(ownAny (F := F) c (rM d (sl 0)) ∗ ownAny c (rM d (sl 1)) ∗ ownAny c (rM d (sl 2)) ∗ ownAny c (rM d (sl 3)))
theorem r_cut (X) : own (F := F) c rB fullShare X ⊢ iprop(slots c false ∗ slots c true) := by
  refine (cut c rB (fun p : Bool × Fin 4 => rRect p.1 p.2) (fun _ _ => rfl) (fun _ => squeezes_S1x1x256x4096_S256x4096) r_disjoint r_cover X).trans ?_
  rw [bigSep_univ_prod, bigSep_bool, bigSep_four, bigSep_four]; exact .rfl
theorem r_join : iprop(slots (F := F) c false ∗ slots c true) ⊢ ownAny c rB := by
  refine BIBase.Entails.trans ?_ (uncut c rB (fun p : Bool × Fin 4 => rRect p.1 p.2) (fun _ _ => rfl) (fun _ => squeezes_S1x1x256x4096_S256x4096) r_disjoint r_cover)
  rw [bigSep_univ_prod, bigSep_bool, bigSep_four, bigSep_four]; exact .rfl

theorem o_cut (X) : own (F := F) c oB fullShare X ⊢ iprop((ownAny c (oM false 0) ∗ ownAny c (oM false 1)) ∗ (ownAny c (oM true 0) ∗ ownAny c (oM true 1))) := by
  refine (cut c oB (fun p : Bool × Fin 2 => oRect p.1 p.2) (fun _ _ => rfl) (fun _ => squeezes_S1x1x256x4096_S256x4096) o_disjoint o_cover X).trans ?_
  rw [bigSep_univ_prod, bigSep_bool, bigSep_two, bigSep_two]; exact .rfl
theorem o_join : iprop((ownAny (F := F) c (oM false 0) ∗ ownAny c (oM false 1)) ∗ (ownAny c (oM true 0) ∗ ownAny c (oM true 1))) ⊢ ownAny c oB := by
  refine BIBase.Entails.trans ?_ (uncut c oB (fun p : Bool × Fin 2 => oRect p.1 p.2) (fun _ _ => rfl) (fun _ => squeezes_S1x1x256x4096_S256x4096) o_disjoint o_cover)
  rw [bigSep_univ_prod, bigSep_bool, bigSep_two, bigSep_two]; exact .rfl

theorem c_cut (X) : own (F := F) c outB fullShare X ⊢ iprop(todoPart c false Finset.univ ∗ todoPart c true Finset.univ) := by
  refine (owns_rects (c : Thread nD τ) outB fullShare (fun p : Bool × Fin 16 => cRect c p.1 p.2) (fun _ _ => rfl) (c_disjoint c) (c_cover c) X).trans ?_
  rw [bigSep_univ_prod, bigSep_bool]
  unfold todoPart
  have h (d : Bool) : (bigSep Finset.univ fun i : Fin 16 => own c (cM c d i) fullShare fun j => X ((cRect c d i).emb j))
      ⊢ bigSep Finset.univ fun i : Fin 16 => ownAny (F := F) c (cM c d i) := bigSep_mono fun i _ => by
    show own c (cM c d i) fullShare _ ⊢ ownAny (F := F) c (cM c d i)
    iintro H; iexists _; iexact H
  exact BI.sep_mono (h false) (h true)

variable (X : Dev nD → Vec F S4096x256 .bf16) (W : Dev nD → Vec F S256x8192 .bf16)

/-- The result reads `OUT` on every chunk. -/
def Holds (R : Vec F S4096x8192 .f32) : Prop := ∀ (d : Bool) (i : Fin 16) (j : S256x4096.Idx), R ((cRect c d i).emb j) = OUT X W d c i j

theorem c_join : iprop(donePart X W c false Finset.univ ∗ donePart X W c true Finset.univ)
    ⊢ iprop(∃ R : Vec F S4096x8192 .f32, ⌜Holds c X W R⌝ ∗ own c outB fullShare R) := by
  have h := join (F := F) c outB (fun p : Bool × Fin 16 => cRect c p.1 p.2) (fun _ _ => rfl) (c_disjoint c) (c_cover c) (fun p => OUT X W p.1 c p.2)
  rw [bigSep_univ_prod, bigSep_bool] at h
  refine BIBase.Entails.trans (show _ ⊢ _ from .rfl) (h.trans ?_)
  iintro ⟨%R, %hR, H⟩
  iexists R
  isplitr; · ipureintro; exact fun d i j => hR (d, i) j
  iexact H

end Kernel

end Cert.KProof

end
-- ==== Proof.Setup.lean ====
/-
What the launch deals each device: the cells' invariants, positions, tokens and credits.
-/
module

public import proofs.«01_k».proof.Proof.Buffers
public import proofs.«01_k».proof.Proof.Gen.KernelIdeal.Launch

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The semaphores of a device -/

/-- The kernel's own semaphores: of the copies to the result, and of the messages. -/
abbrev OI : Type := (Bool × Fin 2) ⊕ (Bool × Bool × Fin 4)
def osem : OI → SemLoc sig
  | .inl p => .dma (outS p.1 p.2)
  | .inr q => csem (some q)

theorem ownSemFacts : Pipeline.OwnSemFacts cfg0.spec osem := by decide

/-- The send and receive cells of one direction. -/
def quad (Φ : Bool × Bool × Fin 4 → sProp 𝕄) (d : Bool) : sProp 𝕄 :=
  iprop((Φ (false, d, 0) ∗ Φ (true, d, 0)) ∗ (Φ (false, d, 1) ∗ Φ (true, d, 1)) ∗ (Φ (false, d, 2) ∗ Φ (true, d, 2)) ∗ (Φ (false, d, 3) ∗ Φ (true, d, 3)))

def turn : Bool × Fin 4 × Bool ≃ Bool × Bool × Fin 4 := ⟨fun p => (p.2.2, p.1, p.2.1), fun q => (q.2.1, q.2.2, q.1), fun _ => rfl, fun _ => rfl⟩

theorem bigSep_cells (Φ : Bool × Bool × Fin 4 → sProp 𝕄) : bigSep Finset.univ Φ = iprop(quad Φ false ∗ quad Φ true) := by
  rw [bigSep_univ_equiv turn, bigSep_univ_prod, bigSep_bool]
  simp only [bigSep_univ_prod, bigSep_four, bigSep_bool]
  rfl

theorem bigSep_CI (Φ : CI → sProp 𝕄) : bigSep Finset.univ Φ = iprop((quad (fun q => Φ (some q)) false ∗ quad (fun q => Φ (some q)) true) ∗ Φ none) := by
  rw [bigSep_univ_equiv (Equiv.optionEquivSumPUnit.{0} (Bool × Bool × Fin 4)).symm, bigSep_univ_sum,
    bigSep_univ_eq_bigSepL (I := PUnit.{1}) [⟨⟩] (by decide) (by decide), bigSepL_singleton]
  rw [show (bigSep Finset.univ fun a : Bool × Bool × Fin 4 => Φ ((Equiv.optionEquivSumPUnit (Bool × Bool × Fin 4)).symm (.inl a)))
    = bigSep Finset.univ fun q => Φ (some q) from rfl, bigSep_cells]
  rfl

/-- The semaphores of the copies to the result, of one direction. -/
def outs (c : Dev nD) (d : Bool) : sProp 𝕄 :=
  iprop(semVal ((c : Thread nD τ), .dma (outS d 0)) 0 ∗ semVal ((c : Thread nD τ), .dma (outS d 1)) 0)

theorem ownSems0_eq (c : Dev nD) : (Pipeline.ownSems0 (Ix := ℕ) (Name := ℕ) (U := UU) (Lvl := ℕ) (Val := Elt F) (τ := τ) osem c : sProp 𝕄)
    = iprop((outs c false ∗ outs c true)
      ∗ (quad (fun q => semVal (kcell (c, some q)) 0) false ∗ quad (fun q => semVal (kcell (c, some q)) 0) true)) := by
  unfold Pipeline.ownSems0
  rw [bigSep_univ_sum, bigSep_univ_prod, bigSep_bool, bigSep_two, bigSep_two, bigSep_cells]
  rfl
theorem unscopedSems0_eq (c : Dev nD) : (unscopedSems0 c : sProp 𝕄) = semVal (barC c) 0 := by
  unfold unscopedSems0; rw [bigSep_eq_bigSepL_of_eq [SemLoc.reg barS] (by decide) (by decide)]; rfl

/-! ## Cells and tokens -/

theorem csem_injective : Function.Injective csem := by decide
theorem kcell_injective : Function.Injective (kcell : Dev nD × CI → GSem nD τ sig) := fun p p' h => by
  have h1 : p.1 = p'.1 := congrArg (fun g : GSem nD τ sig => g.1.1) h
  have h2 : csem p.2 = csem p'.2 := congrArg Prod.snd h
  exact Prod.ext h1 (csem_injective h2)
def ringCells : Finset (GSem nD τ sig) := Finset.univ.map ⟨kcell, kcell_injective⟩

/-- The duties of a device's own cells: the two of the barrier; one per message, at the send (`false`) and the receive (`true`) cell. -/
abbrev TI : Type := Bool ⊕ (Bool × Bool × Fin 30)
def tkey : TI → CI × ℕ × Bool
  | .inl d => (none, 0, d)
  | .inr (b, d, g) => (some (b, d, sl g.val), g.val / 4, false)
theorem tkey_injective : Function.Injective tkey := fun t t' h => by
  rcases t with d | ⟨b, d, g⟩ <;> rcases t' with d' | ⟨b', d', g'⟩
  · exact congrArg Sum.inl (congrArg (fun x : CI × ℕ × Bool => x.2.2) h)
  · cases congrArg Prod.fst h
  · cases congrArg Prod.fst h
  · have h1 : (b, d, sl g.val) = (b', d', sl g'.val) := Option.some.inj (congrArg Prod.fst h)
    have h2 : g.val / 4 = g'.val / 4 := congrArg (fun x : CI × ℕ × Bool => x.2.1) h
    obtain ⟨hb, h3⟩ := Prod.mk.inj h1
    obtain ⟨hd, h4⟩ := Prod.mk.inj h3
    have hg : g = g' := Fin.ext (by have := msg_eq g.val; have := msg_eq g'.val; rw [h4, h2] at *; omega)
    rw [hb, hd, hg]
def tokOf (p : Dev nD × TI) : GSem nD τ sig × ℕ × Bool := (kcell (p.1, (tkey p.2).1), (tkey p.2).2)
theorem tokOf_injective : Function.Injective tokOf := fun p p' h => by
  have h1 := kcell_injective (show kcell (p.1, (tkey p.2).1) = kcell (p'.1, (tkey p'.2).1) from congrArg Prod.fst h)
  have h2 : (tkey p.2).2 = (tkey p'.2).2 := by have := congrArg Prod.snd h; exact this
  exact Prod.ext (Prod.mk.inj h1).1 (tkey_injective (Prod.ext (Prod.mk.inj h1).2 h2))
def ringToks : Finset (GSem nD τ sig × ℕ × Bool) := Finset.univ.map ⟨tokOf, tokOf_injective⟩

def tk (p : Dev nD × TI) : sProp 𝕄 := dutyTok (ER (F := F)) (tokOf p).1 (tokOf p).2.1 (tokOf p).2.2

def u₀ : UU := (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

section Deal
variable (X : Dev nD → Vec F S4096x256 .bf16) (W : Dev nD → Vec F S256x8192 .bf16)

/-- What the launch element deals device `c`. -/
def G0 (c : Dev nD) : sProp 𝕄 :=
  iprop((bigSep Finset.univ fun q : CI => roundState (ER (F := F)) (Rd X W) (kcell (c, q)) 0)
    ∗ (bigSep Finset.univ fun q : CI => atPos (ER (F := F)) (kcell (c, q)) 0 ∅ 0)
    ∗ (bigSep Finset.univ fun q : CI => reached (ER (F := F)) (kcell (c, q)) 0)
    ∗ bigSep Finset.univ fun t : TI => tk (F := F) (c, t))

theorem fund_ring : BI.own ((ER (F := F)) (initOf ringCells ringToks)) ⊢ (|==> bigSep Finset.univ (G0 X W) : sProp 𝕄) := by
  have hX (Φ : GSem nD τ sig → sProp 𝕄) : bigSep ringCells Φ = bigSep Finset.univ fun c : Dev nD => bigSep Finset.univ fun q : CI => Φ (kcell (c, q)) := by
    unfold ringCells; rw [bigSep_map, bigSep_univ_prod]; rfl
  have hT : bigSep ringToks (fun x => (dutyTok (ER (F := F)) x.1 x.2.1 x.2.2 : sProp 𝕄)) = bigSep Finset.univ fun c : Dev nD => bigSep Finset.univ fun t : TI => tk (F := F) (c, t) := by
    unfold ringToks; rw [bigSep_map, bigSep_univ_prod]; rfl
  iintro H
  imod (Rounds.fund (ER (F := F)) (Rd X W) ringCells ringToks) $$ H with ⟨Hst, Hr, Hat, Htok⟩
  imodintro
  ihave Hst := (Entails.of_eq (hX fun g => roundState (ER (F := F)) (Rd X W) g 0)) $$ Hst
  ihave Hat := (Entails.of_eq (hX fun g => atPos (ER (F := F)) g 0 ∅ 0)) $$ Hat
  ihave Hr := (Entails.of_eq (hX fun g => reached (ER (F := F)) g 0)) $$ Hr
  ihave Htok := (Entails.of_eq hT) $$ Htok
  unfold G0; simp only [bigSep_sep']
  isplitl [Hst]; · iexact Hst
  isplitl [Hat]; · iexact Hat
  isplitl [Hr]; · iexact Hr
  iexact Htok

/-- The records of all cells. -/
def recs : sProp 𝕄 := bigSep Finset.univ fun p : Dev nD × CI => cinv X W (kcell p)
instance recs_persistent : BI.Persistent (recs X W) := by unfold recs; infer_instance
theorem recs_at (p : Dev nD × CI) : recs X W ⊢ cinv X W (kcell p) := bigSep_elim (Finset.mem_univ p)

/-! ## The tokens, dealt around the ring -/

def nbE (d : Bool) : Dev nD ≃ Dev nD := ⟨nb d, nb (!d), nb_nb d, nb_nb' d⟩
/-- Whose cell the token that device `c` gets for duty `t` belongs to. -/
def whose : TI → (Dev nD ≃ Dev nD)
  | .inl d => nbE (!d)
  | .inr (false, _, _) => Equiv.refl _
  | .inr (true, d, _) => nbE d
def deal : Dev nD × TI ≃ Dev nD × TI where
  toFun p := (whose p.2 p.1, p.2)
  invFun p := ((whose p.2).symm p.1, p.2)
  left_inv p := Prod.ext ((whose p.2).symm_apply_apply p.1) rfl
  right_inv p := Prod.ext ((whose p.2).apply_symm_apply p.1) rfl

/-- The tokens of device `c` of one direction. -/
def half (c : Dev nD) (d : Bool) : sProp 𝕄 :=
  iprop(dutyTok (ER (F := F)) (barC (nb (!d) c)) 0 d ∗ bigSep Finset.univ fun g : Fin 30 => tok (F := F) c d g.val)

theorem toks_dealt : (bigSep Finset.univ fun c : Dev nD => bigSep Finset.univ fun t : TI => tk (F := F) (c, t))
    ⊢ bigSep Finset.univ fun c : Dev nD => iprop(half (F := F) c false ∗ half c true) := by
  rw [← bigSep_univ_prod (fun p : Dev nD × TI => tk (F := F) p), bigSep_univ_equiv deal, bigSep_univ_prod]
  refine bigSep_mono fun c _ => ?_
  rw [bigSep_univ_sum, bigSep_univ_prod, bigSep_bool, bigSep_bool]
  simp only [bigSep_univ_prod, bigSep_bool]
  unfold half tok
  simp only [bigSep_sep']
  show iprop((dutyTok (ER (F := F)) (barC (nb (!false) c)) 0 false ∗ dutyTok (ER (F := F)) (barC (nb (!true) c)) 0 true)
    ∗ ((bigSep Finset.univ fun g : Fin 30 => dutyTok (ER (F := F)) (sendC c false (sl g.val)) (g.val / 4) false)
        ∗ bigSep Finset.univ fun g : Fin 30 => dutyTok (ER (F := F)) (sendC c true (sl g.val)) (g.val / 4) false)
      ∗ ((bigSep Finset.univ fun g : Fin 30 => dutyTok (ER (F := F)) (recvC (nb false c) false (sl g.val)) (g.val / 4) false)
        ∗ bigSep Finset.univ fun g : Fin 30 => dutyTok (ER (F := F)) (recvC (nb true c) true (sl g.val)) (g.val / 4) false)) ⊢ _
  iintro ⟨⟨H1, H2⟩, ⟨S1, S2⟩, R1, R2⟩
  isplitl [H1 S1 R1]
  · isplitl [H1]; · iexact H1
    isplitl [S1]; · iexact S1
    iexact R1
  · isplitl [H2]; · iexact H2
    isplitl [S2]; · iexact S2
    iexact R2

/-! ## The positions -/

def poss (c : Dev nD) (d : Bool) : sProp 𝕄 := iprop(pos (F := F) c d 0 ∗ pos c d 1 ∗ pos c d 2 ∗ pos c d 3)

theorem pos_intro (c : Dev nD) (d : Bool) (k : Fin 4) :
    iprop(recs X W ∗ atPos (ER (F := F)) (sendC c d k) 0 ∅ 0 ∗ atPos (ER (F := F)) (recvC c d k) 0 ∅ 0) ⊢ pos (F := F) c d k.val := by
  have hk : sl k.val = k := Fin.ext (Nat.mod_eq_of_lt k.isLt)
  have h0 : k.val / 4 = 0 := Nat.div_eq_of_lt k.isLt
  unfold pos spos rpos
  rw [hk, h0]
  iintro ⟨#HR, Hs, Hr⟩
  ihave #H1 := (recs_at X W (c, some (false, d, k))) $$ HR
  ihave #H2 := (recs_at X W (c, some (true, d, k))) $$ HR
  unfold cinv
  icases H1 with ⟨-, #H1⟩
  icases H2 with ⟨-, #H2⟩
  isplitl [Hs]
  · isplitl; · iexact Hs
    iexact H1
  · isplitl; · iexact Hr
    iexact H2

theorem poss_intro (c : Dev nD) (d : Bool) :
    iprop(recs X W ∗ quad (fun q => atPos (ER (F := F)) (kcell (c, some q)) 0 ∅ 0) d) ⊢ poss (F := F) c d := by
  unfold quad poss
  iintro ⟨#HR, ⟨a0, b0⟩, ⟨a1, b1⟩, ⟨a2, b2⟩, a3, b3⟩
  isplitl [a0 b0]
  · iapply (pos_intro X W c d 0); isplitr; · iexact HR
    isplitl [a0]; · iexact a0
    iexact b0
  isplitl [a1 b1]
  · iapply (pos_intro X W c d 1); isplitr; · iexact HR
    isplitl [a1]; · iexact a1
    iexact b1
  isplitl [a2 b2]
  · iapply (pos_intro X W c d 2); isplitr; · iexact HR
    isplitl [a2]; · iexact a2
    iexact b2
  · iapply (pos_intro X W c d 3); isplitr; · iexact HR
    isplitl [a3]; · iexact a3
    iexact b3

/-! ## The global step -/

/-- What the global step makes of it. -/
def G1 (c : Dev nD) : sProp 𝕄 :=
  iprop(recs X W ∗ atPos (ER (F := F)) (barC c) 0 ∅ 0 ∗ (poss (F := F) c false ∗ poss (F := F) c true) ∗ (half (F := F) c false ∗ half (F := F) c true)
    ∗ (outs (F := F) c false ∗ outs (F := F) c true))

/-- A device's share of it before the records are made common. -/
def raw (c : Dev nD) : sProp 𝕄 :=
  iprop((bigSep Finset.univ fun q : CI => atPos (ER (F := F)) (kcell (c, q)) 0 ∅ 0) ∗ (half (F := F) c false ∗ half (F := F) c true)
    ∗ (outs (F := F) c false ∗ outs (F := F) c true))

theorem G1_intro (c : Dev nD) : iprop(recs X W ∗ raw (F := F) c) ⊢ G1 X W c := by
  unfold raw G1
  rw [bigSep_CI]
  iintro ⟨#HR, ⟨⟨Hf, Ht⟩, Hb⟩, Hh, Ho⟩
  isplitr; · iexact HR
  isplitl [Hb]; · iexact Hb
  isplitl [Hf Ht]
  · isplitl [Hf]
    · iapply (poss_intro X W c false); isplitr; · iexact HR
      iexact Hf
    · iapply (poss_intro X W c true); isplitr; · iexact HR
      iexact Ht
  isplitl [Hh]; · iexact Hh
  iexact Ho

theorem core_alloc (c : Dev nD) :
    iprop(Pipeline.ownSems0 (Ix := ℕ) (Name := ℕ) (U := UU) (Lvl := ℕ) (Val := Elt F) (τ := τ) osem c ∗ unscopedSems0 c ∗ G0 X W c)
      ⊢ |={Set.univ}=> iprop((bigSep Finset.univ fun q : CI => cinv X W (kcell (c, q)))
          ∗ (bigSep Finset.univ fun q : CI => atPos (ER (F := F)) (kcell (c, q)) 0 ∅ 0)
          ∗ (bigSep Finset.univ fun t : TI => tk (F := F) (c, t))
          ∗ (outs (F := F) c false ∗ outs (F := F) c true)) := by
  unfold G0
  rw [ownSems0_eq, unscopedSems0_eq]
  iintro ⟨⟨Ho, Hq⟩, Hb, Hst, Hat, Hr, Htok⟩
  ihave Hv := (Entails.of_eq (bigSep_CI (F := F) (fun q => semVal (kcell (c, q)) 0)).symm) $$ [Hq Hb]
  · isplitl [Hq]; · iexact Hq
    iexact Hb
  imod (show iprop((bigSep Finset.univ fun q : CI => semVal (kcell (c, q)) 0) ∗ bigSep Finset.univ fun q : CI => roundState (ER (F := F)) (Rd X W) (kcell (c, q)) 0)
      ⊢ (|={Set.univ}=> bigSep Finset.univ fun q : CI => iprop(∃ κ : ℕ, cellInv (ER (F := F)) (Rd X W) κ (kcell (c, q))) : sProp 𝕄) from by
        rw [← bigSep_sep']
        exact (bigSep_mono fun q _ => (Rounds.body_intro (ER (F := F)) (Rd X W) (kcell (c, q))).trans inv_alloc).trans (bigSep_fupd _ _)) $$ [Hv Hst] with Hinv
  · isplitl [Hv] <;> iassumption
  imodintro
  isplitl [Hinv Hr]
  · unfold cinv; rw [bigSep_sep']
    isplitl [Hinv]; · iexact Hinv
    iexact Hr
  isplitl [Hat]; · iexact Hat
  isplitl [Htok]; · iexact Htok
  iexact Ho

theorem raw_intro : iprop((bigSep Finset.univ fun c : Dev nD => bigSep Finset.univ fun q : CI => atPos (ER (F := F)) (kcell (c, q)) 0 ∅ 0)
      ∗ (bigSep Finset.univ fun c : Dev nD => iprop(half (F := F) c false ∗ half (F := F) c true))
      ∗ bigSep Finset.univ fun c : Dev nD => iprop(outs (F := F) c false ∗ outs (F := F) c true)) ⊢ bigSep Finset.univ (raw (F := F)) := by
  rw [← bigSep_sep' Finset.univ (fun c : Dev nD => iprop(half (F := F) c false ∗ half (F := F) c true)), ← bigSep_sep']
  exact bigSep_mono fun c _ => (show _ ⊢ raw (F := F) c from .rfl)

theorem regroup :
    (bigSep Finset.univ fun c : Dev nD => iprop((bigSep Finset.univ fun q : CI => cinv X W (kcell (c, q)))
          ∗ (bigSep Finset.univ fun q : CI => atPos (ER (F := F)) (kcell (c, q)) 0 ∅ 0)
          ∗ (bigSep Finset.univ fun t : TI => tk (F := F) (c, t))
          ∗ (outs (F := F) c false ∗ outs (F := F) c true)))
      ⊢ bigSep Finset.univ (G1 X W) := by
  rw [bigSep_sep', bigSep_sep', bigSep_sep', ← bigSep_univ_prod (fun p : Dev nD × CI => cinv X W (kcell p))]
  iintro ⟨#HR, Hat, Htok, Ho⟩
  ihave Htok := (toks_dealt (F := F)) $$ Htok
  iapply (show iprop(recs X W ∗ bigSep Finset.univ (raw (F := F))) ⊢ bigSep Finset.univ (G1 X W) from
    (show _ ⊢ iprop((bigSep (Finset.univ : Finset (Dev nD)) fun _ => recs X W) ∗ bigSep Finset.univ (raw (F := F))) from by
      iintro ⟨H, G⟩
      isplitl [H]; · iapply (BI.bigSep_of_persistent Finset.univ (recs X W)) $$ H
      iexact G).trans (by
        rw [← bigSep_sep']; exact bigSep_mono fun c _ => G1_intro X W c))
  isplitr; · unfold recs; iexact HR
  iapply (raw_intro (F := F))
  isplitl [Hat]; · iexact Hat
  isplitl [Htok]; · iexact Htok
  iexact Ho

theorem glob : (bigSep Finset.univ fun c => iprop(Pipeline.ownSems0 (Ix := ℕ) (Name := ℕ) (U := UU) (Lvl := ℕ) (Val := Elt F) (τ := τ) osem c ∗ unscopedSems0 c ∗ G0 X W c) : sProp 𝕄)
    ⊢ |={Set.univ}=> bigSep Finset.univ (G1 X W) :=
  ((bigSep_mono fun c _ => core_alloc X W c).trans (bigSep_fupd _ _)).trans (BI.fupd_mono (regroup X W))

end Deal

/-! ## The credit of the launch -/

theorem cred_due (c : Dev nD) (d : Bool) (g : ℕ) : (Pipeline.launchCred (fun e => due e d g) c : sProp 𝕄) ⊢ crd (F := F) c d g :=
  Pipeline.launchCred_tallyAt (.dma (recvS d (sl g))) (nb d) (nb (!d)) (nb_nb' d) (nb_nb d) g N c

theorem creds (c : Dev nD) : (Pipeline.launchCred O₀ c : sProp 𝕄)
    ⊢ iprop(cred (tallyAt (barC c) 0 2) ∗ (bigSep (Finset.Ico 0 30) fun g => crd (F := F) c false g) ∗ bigSep (Finset.Ico 0 30) fun g => crd (F := F) c true g) := by
  have hb (d : Bool) : (Pipeline.launchCred (fun e => tallyAt (barC (nb d e)) 0 1) c : sProp 𝕄) ⊢ cred (tallyAt (barC c) 0 1) :=
    Pipeline.launchCred_tallyAt (.reg barS) (nb d) (nb (!d)) (nb_nb' d) (nb_nb d) 0 1 c
  have hO : (Pipeline.launchCred (fun e => O e 0) c : sProp 𝕄)
      ⊢ iprop((bigSep (Finset.Ico 0 30) fun g => crd (F := F) c true g) ∗ bigSep (Finset.Ico 0 30) fun g => crd (F := F) c false g) := by
    rw [← bigSep_sep']
    refine (Entails.of_eq (Pipeline.launchCred_sum (Finset.Ico 0 30) (fun g e => due e true g + due e false g) c)).trans (bigSep_mono fun g _ => ?_)
    rw [Pipeline.launchCred_add (fun e => due e true g) (fun e => due e false g)]
    exact BI.sep_mono (cred_due c true g) (cred_due c false g)
  rw [show (O₀ : Dev nD → CellTallies nD τ sig ℕ) = fun e => (O e 0 + tallyAt (barC (nb false e)) 0 1) + tallyAt (barC (nb true e)) 0 1 from rfl,
    Pipeline.launchCred_add (fun e => O e 0 + tallyAt (barC (nb false e)) 0 1) (fun e => tallyAt (barC (nb true e)) 0 1),
    Pipeline.launchCred_add (fun e => O e 0) (fun e => tallyAt (barC (nb false e)) 0 1), show (2 : ℕ) = 1 + 1 from rfl, ← tallyAt_add]
  iintro ⟨⟨HO, Hf⟩, Ht⟩
  ihave Hf := (hb false) $$ Hf
  ihave Ht := (hb true) $$ Ht
  ihave HO := hO $$ HO
  icases HO with ⟨H1, H2⟩
  isplitl [Hf Ht]
  · iapply (show iprop(cred (tallyAt (barC c) 0 1) ∗ cred (tallyAt (barC c) 0 1)) ⊢ cred (tallyAt (barC c) 0 1 + tallyAt (barC c) 0 1) from (cred_add _ _).2)
    isplitl [Hf] <;> iassumption
  isplitl [H2] <;> iassumption

theorem toks_intro (c : Dev nD) (d : Bool) :
    iprop((bigSep Finset.univ fun g : Fin 30 => tok (F := F) c d g.val) ∗ bigSep (Finset.Ico 0 30) fun g => crd (F := F) c d g) ⊢ toks (F := F) c d 0 := by
  unfold toks
  rw [bigSep_sep', show (Finset.Ico 0 30 : Finset ℕ) = (Finset.univ : Finset (Fin 30)).map Fin.valEmbedding by decide, bigSep_map]
  exact .rfl

end Cert.KProof

end
-- ==== Proof.Body.lean ====
/-
The body of a device as the launch meets it: from the buffers and the ghost state dealt to it, to the result and every semaphore at zero.
-/
module

public import proofs.«01_k».proof.Proof.Setup
public import proofs.«01_k».proof.Proof.Gen.KernelIdeal.Points

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Body
variable (X : Dev nD → Vec F S4096x256 .bf16) (W : Dev nD → Vec F S256x8192 .bf16) (c : Dev nD) {Q : Post F}

/-! ## Closing the cells -/

theorem close_pos (d : Bool) (g : ℕ) (h : 30 ≤ g) :
    iprop(ctx X W ∗ pos (F := F) c d g) ⊢ |={Set.univ}=> iprop(semVal (sendC c d (sl g)) 0 ∗ semVal (recvC c d (sl g)) 0) := by
  iintro ⟨#Hctx, Hp⟩
  ihave #H1 := (ctx_send X W c d (sl g)) $$ Hctx
  ihave #H2 := (ctx_recv X W c d (sl g)) $$ Hctx
  unfold cinv pos spos rpos
  icases H1 with ⟨⟨%κ1, #H1⟩, -⟩
  icases H2 with ⟨⟨%κ2, #H2⟩, -⟩
  icases Hp with ⟨⟨Ha, -⟩, ⟨Hb, -⟩⟩
  imod (Rounds.cell_close (ER (F := F)) (Rd X W) (Set.mem_univ κ1) (fun h => h) (R := g / 4) (fun r hr => duties_send_later X W c d h r hr)) $$ [Ha] with Hz1
  · isplitr; · iexact H1
    iexact Ha
  imod (Rounds.cell_close (ER (F := F)) (Rd X W) (Set.mem_univ κ2) (fun h => h) (R := g / 4) (fun r hr => duties_recv_later X W c d h r hr)) $$ [Hb] with Hz2
  · isplitr; · iexact H2
    iexact Hb
  imodintro
  isplitl [Hz1]; · iexact Hz1
  iexact Hz2

theorem close_bar : iprop(ctx X W ∗ atPos (ER (F := F)) (barC c) 1 ∅ 0) ⊢ |={Set.univ}=> semVal (barC c) 0 := by
  iintro ⟨#Hctx, Ha⟩
  ihave #H1 := (ctx_bar X W c) $$ Hctx
  unfold cinv
  icases H1 with ⟨⟨%κ1, #H1⟩, -⟩
  iapply (Rounds.cell_close (ER (F := F)) (Rd X W) (Set.mem_univ κ1) (fun h => h) (R := 1) (fun r hr => duties_bar_later X W c r hr))
  isplitr; · iexact H1
  iexact Ha

theorem close_dir (d : Bool) : iprop(ctx X W ∗ pos (F := F) c d 30 ∗ pos (F := F) c d 31 ∗ pos (F := F) c d 32 ∗ pos (F := F) c d 33)
    ⊢ |={Set.univ}=> quad (fun q => semVal (kcell (c, some q)) 0) d := by
  iintro ⟨#Hctx, H0, H1, H2, H3⟩
  imod (close_pos X W c d 30 (by decide)) $$ [H0] with ⟨a0, b0⟩
  · isplitr; · iexact Hctx
    iexact H0
  imod (close_pos X W c d 31 (by decide)) $$ [H1] with ⟨a1, b1⟩
  · isplitr; · iexact Hctx
    iexact H1
  imod (close_pos X W c d 32 (by decide)) $$ [H2] with ⟨a2, b2⟩
  · isplitr; · iexact Hctx
    iexact H2
  imod (close_pos X W c d 33 (by decide)) $$ [H3] with ⟨a3, b3⟩
  · isplitr; · iexact Hctx
    iexact H3
  imodintro
  unfold quad
  isplitl [a2 b2]
  · isplitl [a2]; · iexact a2
    iexact b2
  isplitl [a3 b3]
  · isplitl [a3]; · iexact a3
    iexact b3
  isplitl [a0 b0]
  · isplitl [a0]; · iexact a0
    iexact b0
  · isplitl [a1]; · iexact a1
    iexact b1

/-! ## Whole buffers -/

theorem own_whole (b : Ref sig .tc) (f : Buf (Elt F) ((c : Thread nD τ).loc b)) :
    (((c : Thread nD τ).loc b) ↦{fullShare} f : sProp 𝕄) ⊢ own c (Memref.whole b) fullShare f := by
  unfold own owns
  simp only [Memref.view_whole, View.read_whole, View.set_whole]
  iintro H
  iexists f
  isplitr; · ipureintro; rfl
  iexact H
theorem whole_own (b : Ref sig .tc) (f : Buf (Elt F) ((c : Thread nD τ).loc b)) :
    own c (Memref.whole b) fullShare f ⊢ (((c : Thread nD τ).loc b) ↦{fullShare} f : sProp 𝕄) := by
  unfold own owns
  simp only [Memref.view_whole, View.read_whole, View.set_whole]
  iintro ⟨%g, %hg, H⟩
  subst hg
  iexact H

/-! ## Before and after the body -/

/-- The tokens and credits of device `c` of one direction. -/
def dealt (d : Bool) : sProp 𝕄 := iprop(dutyTok (ER (F := F)) (barC (nb (!d) c)) 0 d ∗ toks (F := F) c d 0)

/-- What device `c` starts from, the result array at `f` included. -/
def start (f : Buf (Elt F) ((c : Thread nD τ).loc main_v1)) : sProp 𝕄 :=
  iprop(ctx X W ∗ cred (tallyAt (barC c) 0 2) ∗ atPos (ER (F := F)) (barC c) 0 ∅ 0 ∗ (poss (F := F) c false ∗ poss (F := F) c true)
    ∗ (dealt (F := F) c false ∗ dealt (F := F) c true) ∗ (outs (F := F) c false ∗ outs (F := F) c true) ∗ (((c : Thread nD τ).loc main_v1) ↦{fullShare} f))

def scratch : sProp 𝕄 := Pipeline.scopedRest (Ix := ℕ) (Name := ℕ) (U := UU) (Lvl := ℕ) (Val := Elt F) cfg0.spec c
theorem scratch_eq : scratch (F := F) c = iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)) := scopedRest0_eq c

/-- The result, and the barrier semaphore at zero. -/
def done : sProp 𝕄 := iprop(semVal (barC c) 0 ∗ ∃ R : Buf (Elt F) ((c : Thread nD τ).loc main_v1), ⌜Holds c X W R⌝ ∗ (((c : Thread nD τ).loc main_v1) ↦{fullShare} R))

def after : sProp 𝕄 :=
  iprop(done X W c ∗ Pipeline.ownSems0 (Ix := ℕ) (Name := ℕ) (U := UU) (Lvl := ℕ) (Val := Elt F) (τ := τ) osem c ∗ scratch (F := F) c)

theorem init_intro (d : Bool) :
    iprop(ownAny (F := F) c (sM d) ∗ slots (F := F) c d ∗ poss (F := F) c d ∗ dealt (F := F) c d) ⊢ Init (F := F) c d := by
  unfold slots poss dealt Init
  iintro ⟨Hs, Hr, Hp, Ht, Hk⟩
  isplitl [Ht]; · iexact Ht
  isplitl [Hs]; · iexact Hs
  isplitl [Hr]; · iexact Hr
  isplitl [Hp]; · iexact Hp
  iexact Hk

theorem blank_intro (d : Bool) :
    iprop((ownAny (F := F) c (oM d 0) ∗ ownAny (F := F) c (oM d 1)) ∗ outs (F := F) c d ∗ todoPart (F := F) c d Finset.univ) ⊢ Blank X W c d := by
  unfold outs Blank
  rw [stag_none, stag_none]
  iintro ⟨⟨H0, H1⟩, ⟨S0, S1⟩, Ht⟩
  isplitl [H0 H1 S0 S1]
  · isplitl [H0 S0]
    · isplitl [H0]; · iexact H0
      iexact S0
    · isplitl [H1]; · iexact H1
      iexact S1
  iexact Ht

theorem last_elim (d : Bool) :
    Last X W c d ⊢ iprop(ownAny (F := F) c (sM d) ∗ slots (F := F) c d ∗ (pos (F := F) c d 30 ∗ pos (F := F) c d 31 ∗ pos (F := F) c d 32 ∗ pos (F := F) c d 33)
      ∗ (ownAny (F := F) c (oM d 0) ∗ ownAny (F := F) c (oM d 1)) ∗ outs (F := F) c d ∗ donePart X W c d Finset.univ) := by
  unfold Last slots outs
  rw [stag_none, stag_none]
  iintro ⟨Hs, Hr, Hp, ⟨⟨H0, S0⟩, ⟨H1, S1⟩⟩, Hd⟩
  isplitl [Hs]; · iexact Hs
  isplitl [Hr]; · iexact Hr
  isplitl [Hp]; · iexact Hp
  isplitl [H0 H1]
  · isplitl [H0]; · iexact H0
    iexact H1
  isplitl [S0 S1]
  · isplitl [S0]; · iexact S0
    iexact S1
  iexact Hd

/-- The scratch buffers and the result array, cut up. -/
theorem cut_all (f : Buf (Elt F) ((c : Thread nD τ).loc main_v1)) : iprop(scratch (F := F) c ∗ (((c : Thread nD τ).loc main_v1) ↦{fullShare} f))
    ⊢ iprop((ownAny (F := F) c (sM false) ∗ ownAny (F := F) c (sM true)) ∗ (slots (F := F) c false ∗ slots (F := F) c true)
      ∗ ((ownAny (F := F) c (oM false 0) ∗ ownAny (F := F) c (oM false 1)) ∗ (ownAny (F := F) c (oM true 0) ∗ ownAny (F := F) c (oM true 1)))
      ∗ (todoPart (F := F) c false Finset.univ ∗ todoPart (F := F) c true Finset.univ)) := by
  rw [scratch_eq]
  iintro ⟨⟨⟨%f0, H0⟩, ⟨%f1, H1⟩, ⟨%f2, H2⟩⟩, Hv⟩
  ihave H0 := (own_whole c cc0_scratch0 f0) $$ H0
  ihave H1 := (own_whole c cc0_scratch1 f1) $$ H1
  ihave H2 := (own_whole c cc0_scratch2 f2) $$ H2
  ihave Hv := (own_whole c main_v1 f) $$ Hv
  isplitl [H0]; · iapply (s_cut c f0) $$ H0
  isplitl [H1]; · iapply (r_cut c f1) $$ H1
  isplitl [H2]; · iapply (o_cut c f2) $$ H2
  iapply (c_cut c f) $$ Hv

/-- … and put together again. -/
theorem join_all : iprop((ownAny (F := F) c (sM false) ∗ ownAny (F := F) c (sM true)) ∗ (slots (F := F) c false ∗ slots (F := F) c true)
      ∗ ((ownAny (F := F) c (oM false 0) ∗ ownAny (F := F) c (oM false 1)) ∗ (ownAny (F := F) c (oM true 0) ∗ ownAny (F := F) c (oM true 1)))
      ∗ (donePart X W c false Finset.univ ∗ donePart X W c true Finset.univ))
    ⊢ iprop(scratch (F := F) c ∗ ∃ R : Buf (Elt F) ((c : Thread nD τ).loc main_v1), ⌜Holds c X W R⌝ ∗ (((c : Thread nD τ).loc main_v1) ↦{fullShare} R)) := by
  rw [scratch_eq]
  iintro ⟨H0, H1, H2, Hv⟩
  ihave H0 := (s_join c) $$ H0
  ihave H1 := (r_join c) $$ H1
  ihave H2 := (o_join c) $$ H2
  ihave Hv := (c_join c X W) $$ Hv
  unfold ownAny
  icases H0 with ⟨%f0, H0⟩
  icases H1 with ⟨%f1, H1⟩
  icases H2 with ⟨%f2, H2⟩
  icases Hv with ⟨%R, %hR, Hv⟩
  isplitl [H0 H1 H2]
  · isplitl [H0]; · iexists f0; iapply (whole_own c cc0_scratch0 f0) $$ H0
    isplitl [H1]; · iexists f1; iapply (whole_own c cc0_scratch1 f1) $$ H1
    iexists f2; iapply (whole_own c cc0_scratch2 f2) $$ H2
  iexists R
  isplitr; · ipureintro; exact hR
  iapply (whole_own c main_v1 R) $$ Hv

/-- The body. -/
theorem sound_body (f : Buf (Elt F) ((c : Thread nD τ).loc main_v1)) (xM : Memref sig .tc .vmem S4096x256 .bf16) (hx : xM.IsWhole)
    (wM : Memref sig .tc .vmem S256x8192 .bf16) (hw : wM.IsWhole) :
    iprop((start X W c f ∗ scratch (F := F) c) ∗ owing (F := F) c (O₀ c) ∗ args X W c xM wM)
      ⊢ iprop((iprop(after X W c ∗ owing (F := F) c 0 ∗ args X W c xM wM) -∗ Q ⟨⟩)
        -∗ WP F c (cc0__ar_body xM hx wM hw (Memref.whole main_v1) (Memref.isWhole_whole _) (Memref.whole cc0_scratch0) (Memref.isWhole_whole _)
          (Memref.whole cc0_scratch1) (Memref.isWhole_whole _) (Memref.whole cc0_scratch2) (Memref.isWhole_whole _) cc0_scratch3 cc0_scratch4 cc0_scratch5) Q) := by
  rw [body_eq xM hx wM hw]
  unfold WP
  rw [wp_deviceId]
  unfold start
  iintro ⟨⟨⟨#Hctx, Hc, Hat, ⟨Pf, Pt⟩, ⟨Df, Dt⟩, ⟨Sf, St⟩, Hv⟩, Hscr⟩, HO, Hargs⟩ Hk
  ihave Hcut := (cut_all c f) $$ [Hscr Hv]
  · isplitl [Hscr]; · iexact Hscr
    iexact Hv
  icases Hcut with ⟨⟨Bf, Bt⟩, ⟨Rf, Rt⟩, ⟨Of, Ot⟩, ⟨Cf, Ct⟩⟩
  iapply (wp_prog X W c xM wM) $$ [HO Hargs Hc Hat Pf Pt Df Dt Sf St Bf Bt Rf Rt Of Ot Cf Ct]
  · isplitr; · iexact Hctx
    isplitl [HO]; · iexact HO
    isplitl [Hargs]; · iexact Hargs
    isplitl [Hc]; · iexact Hc
    isplitl [Hat]; · iexact Hat
    isplitl [Pf Df Sf Bf Rf Of Cf]
    · isplitl [Pf Df Bf Rf]
      · iapply (init_intro c false)
        isplitl [Bf]; · iexact Bf
        isplitl [Rf]; · iexact Rf
        isplitl [Pf]; · iexact Pf
        iexact Df
      · iapply (blank_intro X W c false)
        isplitl [Of]; · iexact Of
        isplitl [Sf]; · iexact Sf
        iexact Cf
    · isplitl [Pt Dt Bt Rt]
      · iapply (init_intro c true)
        isplitl [Bt]; · iexact Bt
        isplitl [Rt]; · iexact Rt
        isplitl [Pt]; · iexact Pt
        iexact Dt
      · iapply (blank_intro X W c true)
        isplitl [Ot]; · iexact Ot
        isplitl [St]; · iexact St
        iexact Ct
  iintro ⟨HO, Hargs, Hat, Lf, Lt⟩
  rw [O_30]
  ihave Lf := (last_elim X W c false) $$ Lf
  ihave Lt := (last_elim X W c true) $$ Lt
  icases Lf with ⟨Bf, Rf, Pf, Of, Sf, Cf⟩
  icases Lt with ⟨Bt, Rt, Pt, Ot, St, Ct⟩
  imod (close_bar X W c) $$ [Hat] with Hz
  · isplitr; · iexact Hctx
    iexact Hat
  imod (close_dir X W c false) $$ [Pf] with Zf
  · isplitr; · iexact Hctx
    iexact Pf
  imod (close_dir X W c true) $$ [Pt] with Zt
  · isplitr; · iexact Hctx
    iexact Pt
  ihave Hj := (join_all X W c) $$ [Bf Bt Rf Rt Of Ot Cf Ct]
  · isplitl [Bf Bt]
    · isplitl [Bf]; · iexact Bf
      iexact Bt
    isplitl [Rf Rt]
    · isplitl [Rf]; · iexact Rf
      iexact Rt
    isplitl [Of Ot]
    · isplitl [Of]; · iexact Of
      iexact Ot
    · isplitl [Cf]; · iexact Cf
      iexact Ct
  icases Hj with ⟨Hscr, HR⟩
  rw [wp_ret]
  imodintro
  iapply Hk
  isplitl [Hz HR Zf Zt Sf St Hscr]
  · unfold after done
    rw [ownSems0_eq]
    isplitl [Hz HR]
    · isplitl [Hz]; · iexact Hz
      iexact HR
    isplitl [Zf Zt Sf St]
    · isplitl [Sf St]
      · isplitl [Sf]; · iexact Sf
        iexact St
      · isplitl [Zf]; · iexact Zf
        iexact Zt
    iexact Hscr
  isplitl [HO]; · iexact HO
  iexact Hargs

end Body

end Cert.KProof

end
-- ==== Proof.Run.lean ====
/-
The launch: every device runs the body, the result array ends as `Holds` says, the arguments are unchanged and every semaphore is at zero.
-/
module

public import proofs.«01_k».proof.Proof.Body
public import Idealize.ShloMosaic.Lib.Pipeline.CollectiveSegs

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩
/-- Device `c`'s block of `x`, and of `w`. -/
def XX (c : Dev nD) : Vec F S4096x256 .bf16 := m ((c : Thread nD τ).loc main_arg0)
def WW (c : Dev nD) : Vec F S256x8192 .bf16 := m ((c : Thread nD τ).loc main_arg1)

theorem stage_x (c : Dev nD) : (win0_0.blk t0_0).view.read (Elt F) (m ((c : Thread nD τ).loc main_arg0)) = XX m c := by
  funext j
  show m ((c : Thread nD τ).loc main_arg0) _ = m ((c : Thread nD τ).loc main_arg0) j
  congr 1
  funext a
  apply Fin.ext
  fin_cases a
  · show 0 * 4096 + 1 * (j 0).val = (j 0).val; omega
  · show 0 * 256 + 1 * (j 1).val = (j 1).val; omega
theorem stage_w (c : Dev nD) : (win0_1.blk t0_0).view.read (Elt F) (m ((c : Thread nD τ).loc main_arg1)) = WW m c := by
  funext j
  show m ((c : Thread nD τ).loc main_arg1) _ = m ((c : Thread nD τ).loc main_arg1) j
  congr 1
  funext a
  apply Fin.ext
  fin_cases a
  · show 0 * 256 + 1 * (j 0).val = (j 0).val; omega
  · show 0 * 8192 + 1 * (j 1).val = (j 1).val; omega

/-! ## The proof data -/

abbrev st (c : Dev nD) : sProp 𝕄 := start (XX m) (WW m) c (m ((c : Thread nD τ).loc main_v1))
def Φ₀ (c : Dev nD) : sProp 𝕄 := iprop(st m c ∗ scratch (F := F) c)
def Φ₁ (c : Dev nD) : sProp 𝕄 := after (XX m) (WW m) c

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => XX m c
    | ⟨1, _⟩ => WW m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body obligation -/

abbrev xM0 : Memref sig .tc .vmem S4096x256 .bf16 := Memref.whole cc0_stg0_0
abbrev wM0 : Memref sig .tc .vmem S256x8192 .bf16 := Memref.whole cc0_stg1_0

def bodyPre (c : Dev nD) : sProp 𝕄 :=
  iprop(Φ₀ m c ∗ (dats m ρ 0 c).owesAt 0 t0_0.castSucc
    ∗ (∃ d, own c xM0 fullShare ((dats m ρ 0 c).before (0 : Fin 2) t0_0 d)) ∗ (∃ d, own c wM0 fullShare ((dats m ρ 0 c).before (1 : Fin 2) t0_0 d)))
def bodyPost (c : Dev nD) : sProp 𝕄 :=
  iprop(Φ₁ m c ∗ (dats m ρ 0 c).owesAt 0 t0_0.succ ∗ own c xM0 fullShare (XX m c) ∗ own c wM0 fullShare (WW m c))

theorem before_x (c : Dev nD) (d) : (dats m ρ 0 c).before (0 : Fin 2) t0_0 d = XX m c := by
  unfold Dat.before; rw [if_pos (fetch0_0 t0_0)]; exact stage_x m c
theorem before_w (c : Dev nD) (d) : (dats m ρ 0 c).before (1 : Fin 2) t0_0 d = WW m c := by
  unfold Dat.before; rw [if_pos (fetch0_1 t0_0)]; exact stage_w m c

theorem stage0_eq : (cfg0.win (0 : Fin 2)).stage (cfg0.slots t0_0 0) = xM0 := rfl
theorem stage1_eq : (cfg0.win (1 : Fin 2)).stage (cfg0.slots t0_0 1) = wM0 := rfl
theorem body0_eq : (defs₀ (F := F)) Proc.tc cfg0.body (cfg0.bodyArgs t0_0 (cfg0.slots t0_0)) = bodyAt0 t0_0 := rfl
theorem body1_eq : bodyAt0 (F := F) t0_0 = (cc0__ar_body xM0 (Memref.isWhole_whole _) wM0 (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5) := rfl

theorem idle0_eq : cfg0.idle (0 : Fin 2) (cfg0.grid.coords t0_0) = false := rfl
theorem after0_eq (c : Dev nD) : (dats m ρ 0 c).after (0 : Fin 2) t0_0 = XX m c := rfl
theorem after1_eq (c : Dev nD) : (dats m ρ 0 c).after (1 : Fin 2) t0_0 = WW m c := rfl
theorem Φ1_eq (c : Dev nD) : (dats m ρ 0 c).Φ t0_0.succ = Φ₁ m c := rfl

theorem body_obligation (c : Dev nD) : BodyObligation (dats (F := F) m ρ 0 c) (defs₀ (F := F)) 𝒱₀ 0 Set.univ := fun t => by
  rw [fin_N0 t]
  rw [bigSep_W0, bigSep_W0]
  rw [body0_eq, body1_eq, stage0_eq, stage1_eq, idle0_eq, after0_eq, after1_eq, Φ1_eq]
  refine BIBase.Entails.trans (show _ ⊢ bodyPre m ρ c from .rfl) ?_
  refine BIBase.Entails.trans (Q := WP F c (cc0__ar_body xM0 (Memref.isWhole_whole _) wM0 (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5) (fun _ => bodyPost m ρ c)) ?_ ?_
  rotate_left
  · exact Entails.of_eq (by congr 1)
  unfold bodyPre Φ₀ Dat.owesAt Pipeline.owesWithin
  iintro ⟨Hs, ⟨%Wt, %hWt, HO⟩, ⟨%dx, Hx⟩, ⟨%dw, Hw⟩⟩
  rw [show (dats m ρ 0 c).owed t0_0.castSucc = O₀ c from rfl, before_x, before_w]
  iapply (sound_body (XX m) (WW m) c (m ((c : Thread nD τ).loc main_v1)) xM0 (Memref.isWhole_whole _) wM0 (Memref.isWhole_whole _)) $$ [Hs HO Hx Hw]
  · isplitl [Hs]; · iexact Hs
    isplitl [HO]
    · unfold owing; iexists Wt; iexact HO
    unfold args
    isplitl [Hx]; · iexact Hx
    iexact Hw
  unfold bodyPost owing args Dat.owesAt Pipeline.owesWithin
  rw [show (dats m ρ 0 c).owed t0_0.succ = 0 from rfl]
  iintro ⟨Ha, ⟨%Wt', HO⟩, Hx, Hw⟩
  isplitl [Ha]; · unfold Φ₁; iexact Ha
  isplitl [HO]
  · iexists Wt'
    isplitr; · ipureintro; exact fun _ _ => Or.inl trivial
    iexact HO
  isplitl [Hx]; · iexact Hx
  iexact Hw

/-! ## The side conditions of the launch -/

theorem owed_pos (c : Dev nD) (g : GSem nD τ sig) (j : ℕ) (h : 0 < O₀ c g j) : (∃ c', g = barC c' ∧ j = 0) ∨ (∃ c' d k, g = recvC c' d k) ∧ j < 30 := by
  unfold O₀ at h
  rw [Pi.add_apply, Finsupp.add_apply, Pi.add_apply, Finsupp.add_apply] at h
  rcases Nat.eq_zero_or_pos (O c 0 g j) with h0 | h0
  · rcases Nat.eq_zero_or_pos (tallyAt (barC (nb false c)) 0 1 g j) with h1 | h1
    · rcases Nat.eq_zero_or_pos (tallyAt (barC (nb true c)) 0 1 g j) with h2 | h2
      · rw [h0, h1, h2] at h; exact absurd h (Nat.lt_irrefl 0)
      · exact Or.inl ⟨_, Pipeline.tallyAt_pos h2⟩
    · exact Or.inl ⟨_, Pipeline.tallyAt_pos h1⟩
  · exact Or.inr ⟨(O_from c 0 g j h0).1, (O_from c 0 g j h0).2.2⟩

theorem mayWait_stage (c : Dev nD) (sm : SemLoc sig) (hsm : semKind sm = .other) (T : CellTallies nD τ sig ℕ) (hT : T = O₀ c ∨ T = 0) :
    (levAts L lv : sProp 𝕄) ⊢ MayWait (c : Thread nD τ) sm 0 T := by
  rcases hT with rfl | rfl
  · refine MayOwe.of_cut (L := L) (lev := lv) 0 (fun p hp => ?_) (fun g j hg => ?_) (fun p hp => ?_) (fun g j hg => ?_)
    · rw [Finset.mem_singleton.mp hp]; exact mem_L c sm (by show 0 < 40; decide)
    · rcases owed_pos c g j hg with ⟨c', rfl, rfl⟩ | ⟨⟨c', d, k, rfl⟩, hj⟩
      · exact mem_L c' _ (by decide)
      · exact mem_L c' _ (by omega)
    · rw [Finset.mem_singleton.mp hp]; unfold lv; rw [show ck ((c : Thread nD τ), sm) = .other from (if_pos rfl).trans hsm]
    · rcases owed_pos c g j hg with ⟨c', rfl, rfl⟩ | ⟨⟨c', d, k, rfl⟩, hj⟩
      · rw [lv_bar]; decide
      · rw [lv_recv]; omega
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G1 (XX m) (WW m) c)
      ⊢ |={Set.univ}=> iprop(st m c ∗ emp) := by
  rw [show (Pipeline.unscopedRestP Pipeline.Prefetch.none cfg0.spec c (fun b => m ((c : Thread nD τ).loc b)) : sProp 𝕄)
    = iprop((((c : Thread nD τ).loc main_v1) ↦{fullShare} m ((c : Thread nD τ).loc main_v1))) from unscopedRest0_eq c _]
  unfold G1 half
  iintro ⟨Hv, #Hlev, Hcr, -, #HR, Hat, Hp, ⟨⟨Bf, Tf⟩, ⟨Bt, Tt⟩⟩, Ho⟩
  ihave Hc := (creds (F := F) c) $$ Hcr
  icases Hc with ⟨H2, Cf, Ct⟩
  imodintro
  isplitl
  · unfold st start ctx levs dealt
    isplitr
    · isplitr; · unfold recs; iexact HR
      iexact Hlev
    isplitl [H2]; · iexact H2
    isplitl [Hat]; · iexact Hat
    isplitl [Hp]; · iexact Hp
    isplitl [Bf Tf Bt Tt Cf Ct]
    · isplitl [Bf Tf Cf]
      · isplitl [Bf]; · iexact Bf
        iapply (toks_intro (F := F) c false)
        isplitl [Tf]; · iexact Tf
        iexact Cf
      · isplitl [Bt]; · iexact Bt
        iapply (toks_intro (F := F) c true)
        isplitl [Tt]; · iexact Tt
        iexact Ct
    isplitl [Ho]; · iexact Ho
    iexact Hv
  · iempintro

theorem phi0_intro (c : Dev nD) :
    iprop(st m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scratch
  iintro ⟨Hs, -, Hr⟩
  isplitl [Hs]; · iexact Hs
  iexact Hr

theorem phi1_exit (c : Dev nD) :
    (dats m ρ 0 c).Φ (Fin.last cfg0.N) ⊢ iprop(done (XX m) (WW m) c ∗ Pipeline.ownSems0 osem c ∗ Pipeline.scopedRest cfg0.spec c) := by
  rw [show (dats m ρ 0 c).Φ (Fin.last cfg0.N) = Φ₁ m c from rfl]
  unfold Φ₁ after scratch
  exact .rfl

/-- What a device's final memory holds besides the arguments. -/
def Fin1 (c : Dev nD) (s : MemSt nD τ sig (Elt F)) : Prop :=
  Holds c (XX m) (WW m) (s.mem ((c : Thread nD τ).loc main_v1)) ∧ ∀ sm : SemLoc sig, sm.isScoped .tc = false → s.sem ((c.tc : Thread nD τ), sm) = 0

theorem read_done (c : Dev nD) (s' : Phys nD τ sig (Elt F)) :
    iprop(done (XX m) (WW m) c ∗ emp ∗ SI s') ⊢ |={Set.univ}=> iprop(⌜Fin1 m c s'.mem⌝ ∗ SI s') := by
  unfold done
  iintro ⟨⟨Hz, ⟨%R, %hR, Hv⟩⟩, -, HSI⟩
  icombine HSI Hv gives %hv
  ihave Hz := (Entails.of_eq (unscopedSems0_eq (F := F) c).symm) $$ Hz
  imod (Pipeline.unscopedSems0_read (X := unscopedSems0 c) (c := c) fupd_intro s') $$ [Hz HSI] with ⟨%hs, HSI⟩
  · isplitl [Hz] <;> iassumption
  imodintro
  isplitr
  · ipureintro
    refine ⟨?_, hs⟩
    rw [show s'.mem.mem ((c : Thread nD τ).loc main_v1) = R from Buf.eq_of_forall_mem_univ hv]
    exact hR
  iexact HSI

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ Holds c (XX m) (WW m) (r.2.mem ((c : Thread nD τ).loc main_v1))

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G0 (XX m) (WW m)) (G' := G1 (XX m) (WW m)) (u₀ := u₀)
    (hu₀ := by
      unfold u₀
      iintro Hu
      ihave H := (ownU_split _ _) $$ Hu
      icases H with ⟨HP, HX⟩
      imod (fund_ring (XX m) (WW m)) $$ HX with HG
      imodintro
      isplitl [HP] <;> iassumption)
    (hglob := glob (XX m) (WW m))
    (hA := fun _ _ => rfl) (hpf := fun _ k => k.elim0)
    (X := st m) (Y := done (XX m) (WW m)) (Z := fun _ => iprop(emp))
    (hX := start_intro m ρ) (hin := phi0_intro m ρ) (hout := phi1_exit m ρ)
    (QY := Fin1 m)
    (hY := read_done m)
    (hQ := fun _ h hs => ⟨fun c => ⟨(h c).1, (h c).2.2.1⟩, sem_eq_zero hs fun c => (h c).2.2.2⟩)

theorem finalA_x (c : Dev nD) : finalA m ρ c (0 : Fin 2) = m ((c : Thread nD τ).loc main_arg0) :=
  (dats (F := F) m ρ 0 c).arrAt_in (0 : Fin 2) rfl _
theorem finalA_w (c : Dev nD) : finalA m ρ c (1 : Fin 2) = m ((c : Thread nD τ).loc main_arg1) :=
  (dats (F := F) m ρ 0 c).arrAt_in (1 : Fin 2) rfl _

/-- From any memory with every semaphore at zero, every run ends with the arguments unchanged, the result array of every device as
    `Holds` says and every semaphore at zero. -/
theorem run_kernel : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ Holds c (XX m) (WW m) (r.2.mem ((c : Thread nD τ).loc main_v1)))
    ∧ r.2.sem = fun _ => 0) :=
  (θ_run defs _ _).mono (fun r h => ⟨fun c => ⟨((h.1 c).1 0).trans (finalA_x m ρ c), ((h.1 c).1 1).trans (finalA_w m ρ c), (h.1 c).2⟩, h.2⟩) (run_main m ρ)

end Cert.KProof

end
-- ==== Proof.Value.lean ====
/-
What the result array holds, read at the ideal values: every chunk is the silu of the whole product at the chunk's rows and columns.
-/
module

public import proofs.«01_k».proof.Proof.Buffers
public import proofs.«01_k».proof.ReferenceIdeal
public import Idealize.ShloMosaic.Lib.MatmulPlain
public import Idealize.ShloMosaic.Lib.StackMember
public import Idealize.ShloMosaic.Lib.Pipeline.Value
public import Idealize.ShloMosaic.Lib.Layout

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.ValueIdx
open scoped BigOperators

/-! ## Rows, columns and devices along the ring -/

/-- The block of rows of `x` that device `c` multiplies at step `i`. -/
def xRow (c : Dev nD) (d : Bool) (i : ℕ) : ℕ := if d then (c.val + i) % 16 else (c.val + 16 - i % 16) % 16
theorem xRow_lt (c : Dev nD) (d : Bool) (i : ℕ) : xRow c d i < 16 := by unfold xRow; split <;> exact Nat.mod_lt _ (by decide)

theorem xOff_eq (c : Dev nD) (d : Bool) (i : Fin 16) : xOff c d i = ![256 * xRow c d i.val, 0] := by
  have hc : c.val < 16 := c.isLt
  cases d <;> refine Fin.cases ?_ (fun t => ?_) i
  · refine (k0_off1_eq c).trans ?_
    rw [show xRow c false (0 : Fin 16).val = c.val by show (c.val + 16 - 0 % 16) % 16 = _; omega]
  · refine (k0_off2_eq c t).trans ?_
    have ht : t.val < 15 := t.isLt
    rw [show xRow c false t.succ.val = (c.val + 15 - t.val) % 16 by show (c.val + 16 - (t.val + 1) % 16) % 16 = _; omega]
  · refine (k0_off1_eq c).trans ?_
    rw [show xRow c true (0 : Fin 16).val = c.val by show (c.val + 0) % 16 = _; omega]
  · refine (k0_off3_eq c t).trans ?_
    rw [show xRow c true t.succ.val = (c.val + t.val + 1) % 16 by show (c.val + (t.val + 1)) % 16 = _; rw [Nat.add_assoc]]

/-- The device `t` steps back along direction `d`. -/
def back (d : Bool) (c : Dev nD) (t : ℕ) : Dev nD := (fr d)^[t] c
theorem back_zero (d : Bool) (c : Dev nD) : back d c 0 = c := rfl
theorem back_succ (d : Bool) (c : Dev nD) (t : ℕ) : back d c (t + 1) = back d (fr d c) t := rfl
theorem back_val (d : Bool) (t : ℕ) : ∀ c : Dev nD, (back d c t).val = if d then (c.val + t) % 16 else (c.val + 15 * t) % 16 := by
  induction t with
  | zero =>
    intro c
    have hc : c.val < 16 := c.isLt
    rw [back_zero]; split <;> omega
  | succ t ih =>
    intro c
    rw [back_succ, ih]
    cases d
    · rw [if_neg (by decide), if_neg (by decide)]
      show ((nb true c).val + 15 * t) % 16 = _
      rw [nb_true]; omega
    · rw [if_pos rfl, if_pos rfl]
      show ((nb false c).val + t) % 16 = _
      rw [nb_false]; omega

theorem xRow_fr (c : Dev nD) (d : Bool) (i : ℕ) : xRow (fr d c) d i = xRow c d (i + 1) := by
  have hc : c.val < 16 := c.isLt
  cases d
  · show ((nb true c).val + 16 - i % 16) % 16 = (c.val + 16 - (i + 1) % 16) % 16
    rw [nb_true]; omega
  · show ((nb false c).val + i) % 16 = (c.val + (i + 1)) % 16
    rw [nb_false]; omega
/-- Where chunk `i` of device `c` comes from: the rows its sender summed up. -/
theorem xRow_back (c : Dev nD) (d : Bool) (i : Fin 16) : xRow (back d c i.val) d 15 = cRow c d i := by
  have hc : c.val < 16 := c.isLt
  have hi := i.isLt
  unfold xRow cRow
  rw [back_val]
  cases d
  · rw [if_neg (by decide), if_neg (by decide), if_neg (by decide)]; omega
  · rw [if_pos rfl, if_pos rfl, if_pos rfl]; omega

/-- Sixteen steps back meet every device once. -/
theorem sum_back {M : Type} [AddCommMonoid M] (d : Bool) (c : Dev nD) (f : Dev nD → M) :
    ∑ t ∈ Finset.range 16, f (back d c t) = ∑ e : Dev nD, f e := by
  have hinj : Function.Injective (fun t : Fin 16 => back d c t.val) := by
    intro t t' h
    have h := congrArg Fin.val h
    simp only [back_val] at h
    apply Fin.ext
    have ht := t.isLt
    have ht' := t'.isLt
    cases d
    · rw [if_neg (by decide), if_neg (by decide)] at h; omega
    · rw [if_pos rfl, if_pos rfl] at h; omega
  have hbij : Function.Bijective (fun t : Fin 16 => back d c t.val) := (Fintype.bijective_iff_injective_and_card _).mpr ⟨hinj, rfl⟩
  rw [Finset.sum_range]
  exact hbij.sum_comp f

/-! ## The chunks at the ideal values -/

section Ideal
variable (x : Vec Ideal Cert.ReferenceIdeal.S4096x4096 .bf16) (w : Vec Ideal S4096x8192 .bf16)

/-- Device `c`'s block of the whole `x`, and of the whole `w`. -/
def xBlock (c : Dev nD) : Vec Ideal S4096x256 .bf16 := Layout.block ⟨2, ![4096, 256]⟩ ⟨2, ![4096, 4096]⟩ 1 16 c x
def wBlock (c : Dev nD) : Vec Ideal S256x8192 .bf16 := Layout.block ⟨2, ![256, 8192]⟩ ⟨2, ![4096, 8192]⟩ 0 16 c w

/-- The contracted coordinate `k` of device `c`. -/
def mid4096 (c : Dev nD) (k : Fin 256) : Fin 4096 := ⟨k.val + 256 * c.val, by have hc : c.val < 16 := c.isLt; omega⟩
/-- Row `a` of block `n`, and column `b` of direction `d`. -/
def row (n : Fin 16) (a : Fin 256) : Fin 4096 := ⟨256 * n.val + a.val, by omega⟩
def col (d : Bool) (b : Fin 4096) : Fin 8192 := ⟨4096 * dn d + b.val, by unfold dn; split <;> omega⟩

/-- What device `c` contributes to the product at `(r, n)`. -/
def share1 (r : Fin 4096) (n : Fin 8192) (c : Dev nD) : EReal := ∑ k : Fin 256, x (ix2 r (mid4096 c k)) * w (ix2 (mid4096 c k) n)

/-- The product at `(r, n)`: the sum of the devices' contributions. -/
theorem sum_share1 (r : Fin 4096) (n : Fin 8192) :
    ∑ c : Dev nD, share1 x w r n c = ∑ k : Fin 4096, x (ix2 r k) * w (ix2 k n) := by
  unfold share1
  rw [← Fintype.sum_prod_type' (f := fun (c : Fin 16) (k : Fin 256) => x (ix2 r (mid4096 c k)) * w (ix2 (mid4096 c k) n)),
    ← Equiv.sum_comp (finProdFinEquiv (m := 16) (n := 256))]
  rfl

theorem xs_apply (c : Dev nD) (d : Bool) (i : ℕ) (a k : Fin 256) :
    xs (xBlock x c) c d (ix i) (ix2 a k) = x (ix2 (row ⟨xRow c d (ix i).val, xRow_lt _ _ _⟩ a) (mid4096 c k)) := by
  show x _ = x _
  congr 1
  funext b
  apply Fin.ext
  fin_cases b
  · show xOff c d (ix i) 0 + 1 * a.val = 256 * xRow c d (ix i).val + a.val
    rw [xOff_eq]
    show 256 * xRow c d (ix i).val + 1 * a.val = _
    omega
  · show c.val * 256 + (xOff c d (ix i) 1 + 1 * k.val) = k.val + 256 * c.val
    rw [xOff_eq]
    show c.val * 256 + (0 + 1 * k.val) = _
    omega

theorem ws_apply (c : Dev nD) (d : Bool) (k : Fin 256) (b : Fin 4096) :
    ws (wBlock w c) d (ix2 k b) = w (ix2 (mid4096 c k) (col d b)) := by
  show w _ = w _
  congr 1
  funext a
  apply Fin.ext
  fin_cases a
  · show c.val * 256 + (0 + 1 * k.val) = k.val + 256 * c.val
    omega
  · show 4096 * dn d + 1 * b.val = 4096 * dn d + b.val
    omega

theorem P_apply (c : Dev nD) (d : Bool) (i : ℕ) (hi : i < 16) (a : Fin 256) (b : Fin 4096) :
    P (xBlock x) (wBlock w) d i c (ix2 a b) = share1 x w (row ⟨xRow c d i, xRow_lt _ _ _⟩ a) (col d b) c := by
  have hix : (ix i).val = i := Nat.mod_eq_of_lt hi
  unfold P part k0_pay4
  rw [shapeCast_self, shapeCast_self]
  refine (Ideal.matmul_plain_apply none _ _ _ a b).trans ?_
  rw [show (constant S256x4096 .f32 0x00000000#32 : FVec Ideal S256x4096 .f32) (ix2 a b) = 0 from Ideal.ofBits_zero_f32, zero_add]
  unfold share1
  refine Finset.sum_congr rfl fun k _ => ?_
  rw [xs_apply, ws_apply]
  simp only [hix]

/-- The sum after step `i`: the contributions of the devices passed so far. -/
theorem A_apply (d : Bool) (a : Fin 256) (b : Fin 4096) : ∀ (i : ℕ) (c : Dev nD), i < 16 →
    A (xBlock x) (wBlock w) d i c (ix2 a b)
      = ∑ t ∈ Finset.range (i + 1), share1 x w (row ⟨xRow c d i, xRow_lt _ _ _⟩ a) (col d b) (back d c t)
  | 0, c, h => by
    rw [Finset.sum_range_one]
    exact P_apply x w c d 0 h a b
  | i + 1, c, h => by
    rw [Finset.sum_range_succ', back_zero]
    show A (xBlock x) (wBlock w) d i (fr d c) (ix2 a b) + P (xBlock x) (wBlock w) d (i + 1) c (ix2 a b) = _
    rw [A_apply d a b i (fr d c) (by omega), P_apply x w c d (i + 1) h a b]
    simp only [xRow_fr, back_succ]

/-- The silu of a number, as the reference writes it. -/
def act (y : EReal) : EReal := Ideal.div y (1 + Ideal.exp (-y))

theorem one_add_exp_ne_zero (y : EReal) : 1 + Ideal.exp y ≠ 0 := by
  have h : 0 ≤ Ideal.exp y := by
    induction y with
    | bot => exact le_refl _
    | top => exact le_top
    | coe r => exact EReal.coe_nonneg.mpr (Real.exp_pos r).le
  have : (0 : EReal) < 1 + Ideal.exp y := lt_of_lt_of_le zero_lt_one (le_add_of_nonneg_right h)
  exact this.ne'

theorem act_eq (y : EReal) : y * Ideal.logistic y = act y := by
  unfold Ideal.logistic act Ideal.div
  rw [if_neg (one_add_exp_ne_zero _), if_neg (one_add_exp_ne_zero _), one_mul]

/-- The whole product at `(r, n)`, and its silu. -/
def prod1 (r : Fin 4096) (n : Fin 8192) : EReal := ∑ k : Fin 4096, x (ix2 r k) * w (ix2 k n)

theorem A_last (d : Bool) (c : Dev nD) (a : Fin 256) (b : Fin 4096) :
    A (xBlock x) (wBlock w) d 15 c (ix2 a b) = prod1 x w (row ⟨xRow c d 15, xRow_lt _ _ _⟩ a) (col d b) := by
  rw [A_apply x w d a b 15 c (by decide), sum_back]
  exact sum_share1 x w _ _

theorem silu_last (d : Bool) (c : Dev nD) (a : Fin 256) (b : Fin 4096) :
    silu (A (xBlock x) (wBlock w) d 15 c) (ix2 a b) = act (prod1 x w (row ⟨xRow c d 15, xRow_lt _ _ _⟩ a) (col d b)) := by
  rw [← A_last, ← act_eq]
  rfl

theorem G_apply (d : Bool) : ∀ (t : ℕ) (c : Dev nD), G (xBlock x) (wBlock w) d t c = lo (silu (A (xBlock x) (wBlock w) d 15 (back d c t)))
  | 0, _ => rfl
  | t + 1, c => by rw [back_succ]; exact G_apply d t (fr d c)

theorem OUT_back (d : Bool) (c : Dev nD) (i : Fin 16) (j : S256x4096.Idx) :
    OUT (xBlock x) (wBlock w) d c i j = silu (A (xBlock x) (wBlock w) d 15 (back d c i.val)) j := by
  unfold OUT
  by_cases h : i.val = 0
  · rw [if_pos h, h, back_zero]
  · rw [if_neg h]
    obtain ⟨t, ht⟩ : ∃ t, i.val = t + 1 := ⟨i.val - 1, by omega⟩
    rw [ht, back_succ]
    unfold V
    rw [if_neg (by omega), show 14 + (t + 1) - 15 = t by omega, G_apply]
    rfl

theorem OUT_apply (d : Bool) (c : Dev nD) (i : Fin 16) (a : Fin 256) (b : Fin 4096) :
    OUT (xBlock x) (wBlock w) d c i (ix2 a b) = act (prod1 x w (row ⟨cRow c d i, cRow_lt _ _ _⟩ a) (col d b)) := by
  rw [OUT_back, silu_last]
  simp only [xRow_back]

/-- The silu of the whole product. -/
def result : Vec Ideal S4096x8192 .f32 := fun j => act (prod1 x w (j 0) (j 1))

/-- A device that holds its chunks holds the silu of the whole product. -/
theorem holds_result (c : Dev nD) (R : Vec Ideal S4096x8192 .f32) (h : Holds c (xBlock x) (wBlock w) R) : R = result x w := by
  funext j
  obtain ⟨d, hd⟩ := dn_surj (n := (j 1).val / 4096) (by have : (j 1).val < 8192 := (j 1).isLt; omega)
  obtain ⟨i, hi⟩ := cRow_surj c d (n := (j 0).val / 256) (by have : (j 0).val < 4096 := (j 0).isLt; omega)
  have e : j = (cRect c d i).emb (ix2 (⟨(j 0).val % 256, Nat.mod_lt _ (by decide)⟩ : Fin 256) (⟨(j 1).val % 4096, Nat.mod_lt _ (by decide)⟩ : Fin 4096)) := by
    funext b
    apply Fin.ext
    fin_cases b
    · show (j 0).val = cOff c d i 0 + 1 * ((j 0).val % 256)
      rw [cOff_eq]
      show (j 0).val = 256 * cRow c d i + 1 * ((j 0).val % 256)
      omega
    · show (j 1).val = cOff c d i 1 + 1 * ((j 1).val % 4096)
      rw [cOff_eq]
      show (j 1).val = 4096 * dn d + 1 * ((j 1).val % 4096)
      omega
  have hR := h d i (ix2 (⟨(j 0).val % 256, Nat.mod_lt _ (by decide)⟩ : Fin 256) (⟨(j 1).val % 4096, Nat.mod_lt _ (by decide)⟩ : Fin 4096))
  rw [← e, OUT_apply] at hR
  rw [hR]
  unfold result
  congr 2
  · apply Fin.ext
    show 256 * cRow c d i + (j 0).val % 256 = (j 0).val
    omega
  · apply Fin.ext
    show 4096 * dn d + (j 1).val % 4096 = (j 1).val
    omega

end Ideal

end Cert.KProof

end
-- ==== Proof.Reference.lean ====
/-
The reference's result is the silu of the whole product.
-/
module

public import proofs.«01_k».proof.Proof.Value
public import proofs.«01_k».proof.Proof.Gen.ReferenceIdeal.Run

@[expose] public section

set_option maxRecDepth 8000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.ValueIdx
open scoped BigOperators

theorem ref_value (x : Vec Ideal Cert.ReferenceIdeal.S4096x4096 .bf16) (w : Vec Ideal S4096x8192 .bf16) :
    (Host.divf (extf .f32 (truncf .bf16 (Host.dotGeneral (F := Ideal) (φ₁ := .bf16) (φ₂ := .bf16) Cert.ReferenceIdeal.dot_S4096x4096_S4096x8192_S4096x8192_1_0_0_1_n_n none x w) bitsLt_bf16_f32) bitsLt_bf16_f32)
      (addf (broadcastInDim Cert.ReferenceIdeal.S4096x8192 ![] Cert.ReferenceIdeal.Gen.bcast_S_S4096x8192 (constant Cert.ReferenceIdeal.S_ .f32 0x3F800000#32))
        (Host.exp (Host.negf (extf .f32 (truncf .bf16 (Host.dotGeneral (F := Ideal) (φ₁ := .bf16) (φ₂ := .bf16) Cert.ReferenceIdeal.dot_S4096x4096_S4096x8192_S4096x8192_1_0_0_1_n_n none x w) bitsLt_bf16_f32) bitsLt_bf16_f32)))) : Vec Ideal S4096x8192 .f32)
    = result x w := by
  funext j
  have hy : ∀ p : FVec Ideal S4096x8192 .f32, p = Host.dotGeneral (F := Ideal) (φ₁ := .bf16) (φ₂ := .bf16) Cert.ReferenceIdeal.dot_S4096x4096_S4096x8192_S4096x8192_1_0_0_1_n_n none x w →
      p j = prod1 x w (j 0) (j 1) := by
    intro p hp
    rw [hp]
    conv_lhs => rw [eq_ix2 j]
    exact StackMember.dotGeneral_plain_apply none x w (j 0) (j 1)
  have h1 : Ideal.ofBits .f32 0x3F800000#32 = 1 := by simp [Ideal.ofBits, Ideal.ieee, -EReal.coe_mul]; norm_num
  show Ideal.div _ (Ideal.ofBits .f32 0x3F800000#32 + Ideal.exp (-_)) = act _
  rw [h1]
  unfold act
  exact congrArg (fun y : EReal => Ideal.div y (1 + Ideal.exp (-y))) (hy _ rfl)

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem Cert.KProof

/-- The run at any float values, with the claim about the result dropped. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_kernel m ρ)

theorem frame_kernelIdeal : Cert.quiescent_KernelIdeal := fun m ρ _ => frame_any (F := Ideal) m ρ

/-- The two printed programs are one text; their body tables are cut by label before they are compared. -/
theorem defs₀_eq {F : FTy → Type} [FloatOps F] : Cert.Kernel.defs₀ (F := F) = Cert.KernelIdeal.defs₀ (F := F) := by
  funext p l a
  match p with
  | .tc =>
    match l, a with
    | ⟨0, _⟩, (t, s) => rfl
  | .scScalar _ => rfl
  | .scVector _ _ => rfl
theorem defs_eq {F : FTy → Type} [FloatOps F] : Cert.Kernel.defs (F := F) = Cert.KernelIdeal.defs (F := F) := by
  unfold Cert.Kernel.defs Cert.KernelIdeal.defs
  rw [defs₀_eq]
  rfl

/-- So the same run serves at the bit-exact values. -/
theorem frame_kernel : Cert.quiescent_Kernel := fun m ρ _ => by
  rw [defs_eq]
  exact frame_any (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel, and the reference, end with the silu of the whole product. -/
theorem algebraic : Cert.algebraic_KernelIdeal_ReferenceIdeal := by
  intro m ρ m' ρ' _ hagree
  have hX : XX m = xBlock (m' (((0 : Dev Cert.ReferenceIdeal.nD).tc : Thread Cert.ReferenceIdeal.nD Cert.ReferenceIdeal.τ).loc Cert.ReferenceIdeal.main_arg0)) :=
    funext fun c => (hagree c).1
  have hW : WW m = wBlock (m' (((0 : Dev Cert.ReferenceIdeal.nD).tc : Thread Cert.ReferenceIdeal.nD Cert.ReferenceIdeal.τ).loc Cert.ReferenceIdeal.main_arg1)) :=
    funext fun c => (hagree c).2
  refine ⟨result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_, (h.1 c).1, (h.1 c).2.1⟩) (run_kernel (F := Ideal) m ρ)
    have hc := (h.1 c).2.2
    rw [hX, hW] at hc
    exact holds_result _ _ c _ hc
  · exact (θ_run Cert.ReferenceIdeal.defs _ _).mono (fun _ h => ⟨(h 0).1.trans (ref_value _ _), (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
